-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x320000 : Shape := ⟨2, ![2, 320000]⟩
abbrev S320000 : Shape := ⟨1, ![320000]⟩
abbrev S2x192x64 : Shape := ⟨3, ![2, 192, 64]⟩
abbrev S64 : Shape := ⟨1, ![64]⟩
abbrev S2x96x32 : Shape := ⟨3, ![2, 96, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S2x128x64 : Shape := ⟨3, ![2, 128, 64]⟩

class Facts : Prop where
  bcast_S_S10000x128 : S_.BroadcastsInDim S10000x128 (![] : Fin 0 → Fin S10000x128.rank)
  slices_S2x192x64_S2x128x64_0_0_0 : S2x192x64.Slices ![0, 0, 0] S2x128x64
  bcast_S_S2x128x64 : S_.BroadcastsInDim S2x128x64 (![] : Fin 0 → Fin S2x128x64.rank)

variable [Facts]

def fn {F : FTy → Type} [FloatOps F] (main_arg0 : FVec F S10000x128 .f32) (main_arg1 : IVec S2x320000 32) (main_arg2 : FVec F S320000 .f32) (main_arg3 : FVec F S2x192x64 .f32) (main_arg4 : FVec F S64 .f32) (main_arg5 : FVec F S2x192x64 .f32) (main_arg6 : FVec F S64 .f32) (main_arg7 : FVec F S2x192x64 .f32) (main_arg8 : FVec F S64 .f32) (main_arg9 : FVec F S2x96x32 .f32) (main_arg10 : FVec F S32 .f32) (main_arg11 : FVec F S2x96x32 .f32) (main_arg12 : FVec F S32 .f32) (main_arg13 : FVec F S2x96x32 .f32) (main_arg14 : FVec F S32 .f32) (main_arg15 : FVec F S32x16 .f32) (main_arg16 : FVec F S16 .f32) (main_arg17 : FVec F S16x1 .f32) (main_arg18 : FVec F S1 .f32) : IVec S10000x128 1 × IVec S2x128x64 1 × IVec S2x128x64 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S2x128x64 .f32 := (extractStridedSlice S2x128x64 ![0, 0, 0] · slices_S2x192x64_S2x128x64_0_0_0) main_arg3
  let main_v4 : FVec F S2x128x64 .f32 := Host.absf main_v3
  let main_cst_0 : FVec F S_ .f32 := constant S_ .f32 0x7F800000#32
  let main_v5 : FVec F S2x128x64 .f32 := broadcastInDim S2x128x64 ![] bcast_S_S2x128x64 main_cst_0
  let main_v6 : IVec S2x128x64 1 := cmpf .olt main_v4 main_v5
  let main_v7 : FVec F S2x128x64 .f32 := (extractStridedSlice S2x128x64 ![0, 0, 0] · slices_S2x192x64_S2x128x64_0_0_0) main_arg7
  let main_v8 : FVec F S2x128x64 .f32 := Host.absf main_v7
  let main_cst_1 : FVec F S_ .f32 := constant S_ .f32 0x7F800000#32
  let main_v9 : FVec F S2x128x64 .f32 := broadcastInDim S2x128x64 ![] bcast_S_S2x128x64 main_cst_1
  let main_v10 : IVec S2x128x64 1 := cmpf .olt main_v8 main_v9
  (main_v2, main_v6, main_v10)
-- ==== Kernel.lean ====
abbrev S10000x128 : Shape := ⟨2, ![10000, 128]⟩
abbrev S2x320000 : Shape := ⟨2, ![2, 320000]⟩
abbrev S320000 : Shape := ⟨1, ![320000]⟩
abbrev S2x192x64 : Shape := ⟨3, ![2, 192, 64]⟩
abbrev S64 : Shape := ⟨1, ![64]⟩
abbrev S2x96x32 : Shape := ⟨3, ![2, 96, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x64 : Shape := ⟨2, ![1, 64]⟩
abbrev S1x32 : Shape := ⟨2, ![1, 32]⟩
abbrev S1x16 : Shape := ⟨2, ![1, 16]⟩
abbrev S1x1 : Shape := ⟨2, ![1, 1]⟩
abbrev S10000x1 : Shape := ⟨2, ![10000, 1]⟩
abbrev S2000x128 : Shape := ⟨2, ![2000, 128]⟩
abbrev S2000x1 : Shape := ⟨2, ![2000, 1]⟩
abbrev S128x128 : Shape := ⟨2, ![128, 128]⟩
abbrev S64x32 : Shape := ⟨2, ![64, 32]⟩
abbrev S32x2 : Shape := ⟨2, ![32, 2]⟩
abbrev S8x128 : Shape := ⟨2, ![8, 128]⟩
abbrev S1x128x64 : Shape := ⟨3, ![1, 128, 64]⟩
abbrev S128x64 : Shape := ⟨2, ![128, 64]⟩
abbrev S1x128 : Shape := ⟨2, ![1, 128]⟩
abbrev S1x64x32 : Shape := ⟨3, ![1, 64, 32]⟩
abbrev S64x128 : Shape := ⟨2, ![64, 128]⟩
abbrev S32x32 : Shape := ⟨2, ![32, 32]⟩
abbrev S1x95 : Shape := ⟨2, ![1, 95]⟩
abbrev S16x2 : Shape := ⟨2, ![16, 2]⟩
abbrev S2000x64 : Shape := ⟨2, ![2000, 64]⟩
abbrev S1000x64 : Shape := ⟨2, ![1000, 64]⟩
abbrev S1000x128 : Shape := ⟨2, ![1000, 128]⟩
abbrev S1000x32 : Shape := ⟨2, ![1000, 32]⟩
abbrev S1000x2 : Shape := ⟨2, ![1000, 2]⟩
abbrev S1000x1 : Shape := ⟨2, ![1000, 1]⟩

abbrev nBuf : Space → Nat
  | .hbm => 26
  | .vmem => 21
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000, .f32⟩
  | .hbm, ⟨3, _⟩ => ⟨S2x192x64, .f32⟩
  | .hbm, ⟨4, _⟩ => ⟨S64, .f32⟩
  | .hbm, ⟨5, _⟩ => ⟨S2x192x64, .f32⟩
  | .hbm, ⟨6, _⟩ => ⟨S64, .f32⟩
  | .hbm, ⟨7, _⟩ => ⟨S2x192x64, .f32⟩
  | .hbm, ⟨8, _⟩ => ⟨S64, .f32⟩
  | .hbm, ⟨9, _⟩ => ⟨S2x96x32, .f32⟩
  | .hbm, ⟨10, _⟩ => ⟨S32, .f32⟩
  | .hbm, ⟨11, _⟩ => ⟨S2x96x32, .f32⟩
  | .hbm, ⟨12, _⟩ => ⟨S32, .f32⟩
  | .hbm, ⟨13, _⟩ => ⟨S2x96x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x1, .f32⟩
  | .hbm, ⟨18, _⟩ => ⟨S1, .f32⟩
  | .hbm, ⟨19, _⟩ => ⟨S1x64, .f32⟩
  | .hbm, ⟨20, _⟩ => ⟨S1x64, .f32⟩
  | .hbm, ⟨21, _⟩ => ⟨S1x32, .f32⟩
  | .hbm, ⟨22, _⟩ => ⟨S1x32, .f32⟩
  | .hbm, ⟨23, _⟩ => ⟨S1x16, .f32⟩
  | .hbm, ⟨24, _⟩ => ⟨S1x1, .f32⟩
  | .hbm, ⟨25, _⟩ => ⟨S10000x1, .f32⟩
  | .local _ .vmem, ⟨0, _⟩ => ⟨S2000x128, .f32⟩
  | .local _ .vmem, ⟨1, _⟩ => ⟨S2000x128, .f32⟩
  | .local _ .vmem, ⟨2, _⟩ => ⟨S2x192x64, .f32⟩
  | .local _ .vmem, ⟨3, _⟩ => ⟨S1x64, .f32⟩
  | .local _ .vmem, ⟨4, _⟩ => ⟨S2x192x64, .f32⟩
  | .local _ .vmem, ⟨5, _⟩ => ⟨S1x64, .f32⟩
  | .local _ .vmem, ⟨6, _⟩ => ⟨S2x96x32, .f32⟩
  | .local _ .vmem, ⟨7, _⟩ => ⟨S1x32, .f32⟩
  | .local _ .vmem, ⟨8, _⟩ => ⟨S2x96x32, .f32⟩
  | .local _ .vmem, ⟨9, _⟩ => ⟨S1x32, .f32⟩
  | .local _ .vmem, ⟨10, _⟩ => ⟨S32x16, .f32⟩
  | .local _ .vmem, ⟨11, _⟩ => ⟨S1x16, .f32⟩
  | .local _ .vmem, ⟨12, _⟩ => ⟨S16x1, .f32⟩
  | .local _ .vmem, ⟨13, _⟩ => ⟨S1x1, .f32⟩
  | .local _ .vmem, ⟨14, _⟩ => ⟨S2000x1, .f32⟩
  | .local _ .vmem, ⟨15, _⟩ => ⟨S2000x1, .f32⟩
  | .local _ .vmem, ⟨16, _⟩ => ⟨S128x128, .bf16⟩
  | .local _ .vmem, ⟨17, _⟩ => ⟨S128x128, .bf16⟩
  | .local _ .vmem, ⟨18, _⟩ => ⟨S64x32, .bf16⟩
  | .local _ .vmem, ⟨19, _⟩ => ⟨S32x2, .bf16⟩
  | .local _ .vmem, ⟨20, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x96x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x96x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S10000x128 : Shape := ⟨2, ![10000, 128]⟩
abbrev S2x320000 : Shape := ⟨2, ![2, 320000]⟩
abbrev S320000 : Shape := ⟨1, ![320000]⟩
abbrev S2x192x64 : Shape := ⟨3, ![2, 192, 64]⟩
abbrev S64 : Shape := ⟨1, ![64]⟩
abbrev S2x96x32 : Shape := ⟨3, ![2, 96, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩
abbrev S10000x64 : Shape := ⟨2, ![10000, 64]⟩
abbrev S10000x192 : Shape := ⟨2, ![10000, 192]⟩
abbrev S1x192x64 : Shape := ⟨3, ![1, 192, 64]⟩
abbrev S192x64 : Shape := ⟨2, ![192, 64]⟩
abbrev S1x64 : Shape := ⟨2, ![1, 64]⟩
abbrev S10000x32 : Shape := ⟨2, ![10000, 32]⟩
abbrev S10000x96 : Shape := ⟨2, ![10000, 96]⟩
abbrev S1x96x32 : Shape := ⟨3, ![1, 96, 32]⟩
abbrev S96x32 : Shape := ⟨2, ![96, 32]⟩
abbrev S1x32 : Shape := ⟨2, ![1, 32]⟩
abbrev S10000x16 : Shape := ⟨2, ![10000, 16]⟩
abbrev S1x16 : Shape := ⟨2, ![1, 16]⟩
abbrev S10000x1 : Shape := ⟨2, ![10000, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S10000x128, .f32⟩
  | 1 => ⟨S2x320000, .i32⟩
  | 2 => ⟨S320000, .f32⟩
  | 3 => ⟨S2x192x64, .f32⟩
  | 4 => ⟨S64, .f32⟩
  | 5 => ⟨S2x192x64, .f32⟩
  | 6 => ⟨S64, .f32⟩
  | 7 => ⟨S2x192x64, .f32⟩
  | 8 => ⟨S64, .f32⟩
  | 9 => ⟨S2x96x32, .f32⟩
  | 10 => ⟨S32, .f32⟩
  | 11 => ⟨S2x96x32, .f32⟩
  | 12 => ⟨S32, .f32⟩
  | 13 => ⟨S2x96x32, .f32⟩
  | 14 => ⟨S32, .f32⟩
  | 15 => ⟨S32x16, .f32⟩
  | 16 => ⟨S16, .f32⟩
  | 17 => ⟨S16x1, .f32⟩
  | 18 => ⟨S1, .f32⟩
  | 19 => ⟨S_, .f32⟩
  | 20 => ⟨S10000x64, .f32⟩
  | 21 => ⟨S10000x192, .f32⟩
  | 22 => ⟨S1x192x64, .f32⟩
  | 23 => ⟨S192x64, .f32⟩
  | 24 => ⟨S10000x64, .f32⟩
  | 25 => ⟨S1x192x64, .f32⟩
  | 26 => ⟨S192x64, .f32⟩
  | 27 => ⟨S10000x64, .f32⟩
  | 28 => ⟨S10000x64, .f32⟩
  | 29 => ⟨S1x64, .f32⟩
  | 30 => ⟨S10000x64, .f32⟩
  | 31 => ⟨S10000x64, .f32⟩
  | 32 => ⟨S10000x64, .f32⟩
  | 33 => ⟨S10000x64, .f32⟩
  | 34 => ⟨S_, .f32⟩
  | 35 => ⟨S10000x64, .f32⟩
  | 36 => ⟨S10000x64, .f32⟩
  | 37 => ⟨S_, .f32⟩
  | 38 => ⟨S10000x64, .f32⟩
  | 39 => ⟨S10000x64, .f32⟩
  | 40 => ⟨S1x192x64, .f32⟩
  | 41 => ⟨S192x64, .f32⟩
  | 42 => ⟨S10000x64, .f32⟩
  | 43 => ⟨S1x192x64, .f32⟩
  | 44 => ⟨S192x64, .f32⟩
  | 45 => ⟨S10000x64, .f32⟩
  | 46 => ⟨S10000x64, .f32⟩
  | 47 => ⟨S1x64, .f32⟩
  | 48 => ⟨S10000x64, .f32⟩
  | 49 => ⟨S10000x64, .f32⟩
  | 50 => ⟨S10000x64, .f32⟩
  | 51 => ⟨S10000x64, .f32⟩
  | 52 => ⟨S_, .f32⟩
  | 53 => ⟨S10000x64, .f32⟩
  | 54 => ⟨S10000x64, .f32⟩
  | 55 => ⟨S_, .f32⟩
  | 56 => ⟨S10000x64, .f32⟩
  | 57 => ⟨S10000x64, .f32⟩
  | 58 => ⟨S10000x64, .f32⟩
  | 59 => ⟨S10000x192, .f32⟩
  | 60 => ⟨S1x192x64, .f32⟩
  | 61 => ⟨S192x64, .f32⟩
  | 62 => ⟨S10000x64, .f32⟩
  | 63 => ⟨S1x192x64, .f32⟩
  | 64 => ⟨S192x64, .f32⟩
  | 65 => ⟨S10000x64, .f32⟩
  | 66 => ⟨S10000x64, .f32⟩
  | 67 => ⟨S1x64, .f32⟩
  | 68 => ⟨S10000x64, .f32⟩
  | 69 => ⟨S10000x64, .f32⟩
  | 70 => ⟨S10000x64, .f32⟩
  | 71 => ⟨S10000x64, .f32⟩
  | 72 => ⟨S_, .f32⟩
  | 73 => ⟨S10000x64, .f32⟩
  | 74 => ⟨S10000x64, .f32⟩
  | 75 => ⟨S10000x64, .f32⟩
  | 76 => ⟨S10000x64, .f32⟩
  | 77 => ⟨S_, .f32⟩
  | 78 => ⟨S10000x64, .f32⟩
  | 79 => ⟨S10000x64, .f32⟩
  | 80 => ⟨S_, .f32⟩
  | 81 => ⟨S10000x32, .f32⟩
  | 82 => ⟨S10000x96, .f32⟩
  | 83 => ⟨S1x96x32, .f32⟩
  | 84 => ⟨S96x32, .f32⟩
  | 85 => ⟨S10000x32, .f32⟩
  | 86 => ⟨S1x96x32, .f32⟩
  | 87 => ⟨S96x32, .f32⟩
  | 88 => ⟨S10000x32, .f32⟩
  | 89 => ⟨S10000x32, .f32⟩
  | 90 => ⟨S1x32, .f32⟩
  | 91 => ⟨S10000x32, .f32⟩
  | 92 => ⟨S10000x32, .f32⟩
  | 93 => ⟨S10000x32, .f32⟩
  | 94 => ⟨S10000x32, .f32⟩
  | 95 => ⟨S_, .f32⟩
  | 96 => ⟨S10000x32, .f32⟩
  | 97 => ⟨S10000x32, .f32⟩
  | 98 => ⟨S_, .f32⟩
  | 99 => ⟨S10000x32, .f32⟩
  | 100 => ⟨S10000x32, .f32⟩
  | 101 => ⟨S1x96x32, .f32⟩
  | 102 => ⟨S96x32, .f32⟩
  | 103 => ⟨S10000x32, .f32⟩
  | 104 => ⟨S1x96x32, .f32⟩
  | 105 => ⟨S96x32, .f32⟩
  | 106 => ⟨S10000x32, .f32⟩
  | 107 => ⟨S10000x32, .f32⟩
  | 108 => ⟨S1x32, .f32⟩
  | 109 => ⟨S10000x32, .f32⟩
  | 110 => ⟨S10000x32, .f32⟩
  | 111 => ⟨S10000x32, .f32⟩
  | 112 => ⟨S10000x32, .f32⟩
  | 113 => ⟨S_, .f32⟩
  | 114 => ⟨S10000x32, .f32⟩
  | 115 => ⟨S10000x32, .f32⟩
  | 116 => ⟨S_, .f32⟩
  | 117 => ⟨S10000x32, .f32⟩
  | 118 => ⟨S10000x32, .f32⟩
  | 119 => ⟨S10000x32, .f32⟩
  | 120 => ⟨S10000x96, .f32⟩
  | 121 => ⟨S1x96x32, .f32⟩
  | 122 => ⟨S96x32, .f32⟩
  | 123 => ⟨S10000x32, .f32⟩
  | 124 => ⟨S1x96x32, .f32⟩
  | 125 => ⟨S96x32, .f32⟩
  | 126 => ⟨S10000x32, .f32⟩
  | 127 => ⟨S10000x32, .f32⟩
  | _ => ⟨S10000x128, .f32⟩

abbrev hbmTy0_1 (i : Nat) : BufTy := match i % 128 with
  | 0 => ⟨S1x32, .f32⟩
  | 1 => ⟨S10000x32, .f32⟩
  | 2 => ⟨S10000x32, .f32⟩
  | 3 => ⟨S10000x32, .f32⟩
  | 4 => ⟨S10000x32, .f32⟩
  | 5 => ⟨S_, .f32⟩
  | 6 => ⟨S10000x32, .f32⟩
  | 7 => ⟨S10000x32, .f32⟩
  | 8 => ⟨S10000x32, .f32⟩
  | 9 => ⟨S10000x32, .f32⟩
  | 10 => ⟨S_, .f32⟩
  | 11 => ⟨S10000x32, .f32⟩
  | 12 => ⟨S10000x32, .f32⟩
  | 13 => ⟨S10000x16, .f32⟩
  | 14 => ⟨S1x16, .f32⟩
  | 15 => ⟨S10000x16, .f32⟩
  | 16 => ⟨S10000x16, .f32⟩
  | 17 => ⟨S_, .f32⟩
  | 18 => ⟨S10000x16, .f32⟩
  | 19 => ⟨S10000x16, .f32⟩
  | 20 => ⟨S10000x1, .f32⟩
  | 21 => ⟨S1x1, .f32⟩
  | 22 => ⟨S10000x1, .f32⟩
  | 23 => ⟨S10000x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_4 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call0_cst : Ref sig .tc := ⟨.hbm, 77, rfl⟩
abbrev main_call0_v0 : Ref sig .tc := ⟨.hbm, 78, rfl⟩
abbrev main_v52 : Ref sig .tc := ⟨.hbm, 79, rfl⟩
abbrev main_cst_5 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_6 : Ref sig .tc := ⟨.hbm, 95, rfl⟩
abbrev main_v67 : Ref sig .tc := ⟨.hbm, 96, rfl⟩
abbrev main_v68 : Ref sig .tc := ⟨.hbm, 97, rfl⟩
abbrev main_cst_7 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_8 : Ref sig .tc := ⟨.hbm, 113, rfl⟩
abbrev main_v83 : Ref sig .tc := ⟨.hbm, 114, rfl⟩
abbrev main_v84 : Ref sig .tc := ⟨.hbm, 115, rfl⟩
abbrev main_cst_9 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_10 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_call1_cst : Ref sig .tc := ⟨.hbm, 138, rfl⟩
abbrev main_call1_v0 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_call2_cst : Ref sig .tc := ⟨.hbm, 145, rfl⟩
abbrev main_call2_v0 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩

abbrev nD : Nat := 1
abbrev τ : Topo := Topo.v7x

variable {F : FTy → Type} [FloatOps F]
-- ==== Proof.Blocks.lean ====
module

public import proofs.«01_k».proof.Proof.Gen.KernelIdeal.Frame
public import proofs.«01_k».proof.Proof.Gen.KernelIdeal.Skeleton
public import Idealize.ShloMosaic.Lib.Pipeline.ReadBack
public import Idealize.ShloMosaic.Lib.ValueIdx

/-! What the kernel's body computes at one grid point, and how the bias buffer's rows are read back.

At the first point the body prepares, in five scratch buffers, the four weight matrices and the three bias rows it
works with; at every point it then computes one block of the result from its block of `x` and those buffers. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body computes -/

/-- The test by which the body recognises the first grid point. -/
abbrev firstPoint (i : grid0.Coords) : Prop :=
  (Scalar.cmpi .ne (Scalar.extui (Scalar.cmpi .eq (BitVec.ofNat 32 (i 0).val) 0#32)) 0#32) = 1#1

/-- Row 0 of the bias buffer. -/
abbrev biasRow0 (d : Vec F S8x128 .f32) : Vec F S1x128 .f32 :=
  View.ld d (Rect.unit (s := S8x128) ![0, 0] S1x128.size inb_S8x128_S1x128_0_0)

/-- Row 1 of the bias buffer. -/
abbrev biasRow1 (d : Vec F S8x128 .f32) : Vec F S1x128 .f32 :=
  View.ld d (Rect.unit (s := S8x128) ![1, 0] S1x128.size inb_S8x128_S1x128_1_0)

/-- Row 2 of the bias buffer. -/
abbrev biasRow2 (d : Vec F S8x128 .f32) : Vec F S1x128 .f32 :=
  View.ld d (Rect.unit (s := S8x128) ![2, 0] S1x128.size inb_S8x128_S1x128_2_0)

/-- The prepared weights of the first layer, from the two gates' weights. -/
def prepW1 (z h : Vec F S2x192x64 .f32) : Vec F S128x128 .bf16 :=
  k0_pay4 (View.ld z (Rect.unit (s := S2x192x64) ![0, 0, 0] S1x128x64.size inb_S2x192x64_S1x128x64_0_0_0))
    (View.ld z (Rect.unit (s := S2x192x64) ![1, 0, 0] S1x128x64.size inb_S2x192x64_S1x128x64_1_0_0))
    (View.ld h (Rect.unit (s := S2x192x64) ![0, 0, 0] S1x128x64.size inb_S2x192x64_S1x128x64_0_0_0))
    (View.ld h (Rect.unit (s := S2x192x64) ![1, 0, 0] S1x128x64.size inb_S2x192x64_S1x128x64_1_0_0))

/-- The prepared weights of the second layer, from the two gates' weights: the two halves of the rows side by side. -/
def prepW2 (z h : Vec F S2x96x32 .f32) : Vec F S128x128 .bf16 :=
  k0_pay7 (k0_pay6 (View.ld z (Rect.unit (s := S2x96x32) ![0, 0, 0] S1x64x32.size inb_S2x96x32_S1x64x32_0_0_0)))
    (View.ld z (Rect.unit (s := S2x96x32) ![1, 0, 0] S1x64x32.size inb_S2x96x32_S1x64x32_1_0_0))
    (View.ld h (Rect.unit (s := S2x96x32) ![0, 0, 0] S1x64x32.size inb_S2x96x32_S1x64x32_0_0_0))
    (View.ld h (Rect.unit (s := S2x96x32) ![1, 0, 0] S1x64x32.size inb_S2x96x32_S1x64x32_1_0_0))

/-- The first 32 entries of the third bias row: the first dense layer's biases, once for each half. -/
abbrev bias3 (b : Vec F S1x128 .f32) : Vec F S1x32 .f32 :=
  fun j => b (ValueIdx.ix2 (0 : Fin 1) (⟨(j 1).val, lt_of_lt_of_le (show (j 1).val < 32 from (j 1).isLt) (by decide)⟩ : Fin 128))

/-- Entry 32 of the third bias row: the last layer's bias. -/
abbrev bias4 (b : Vec F S1x128 .f32) : Vec F S1x1 .f32 := fun _ => b (ValueIdx.ix2 (0 : Fin 1) (⟨32, by decide⟩ : Fin 128))

/-- The block of the result a grid point writes, from its block of `x`, the four prepared weights and the three bias
rows: the first half of the rows are column 0 of the packed result, the second half column 1. -/
def outBlk (x : Vec F S2000x128 .f32) (w1 w2 : Vec F S128x128 .bf16) (w3 : Vec F S64x32 .bf16) (w4 : Vec F S32x2 .bf16)
    (b1 b2 b3 : Vec F S1x128 .f32) : Vec F S2000x1 .f32 :=
  View.canon
    [⟨Rect.unit (s := S2000x1) ![1000, 0] S1000x1.size inb_S2000x1_S1000x1_1000_0,
        k0_pay3 (k0_pay12 x w1 b1 w2 b2) w3 (constant S1000x32 .f32 0x00000000#32) (bias3 b3) w4 (bias4 b3)⟩,
      ⟨Rect.unit (s := S2000x1) ![0, 0] S1000x1.size inb_S2000x1_S1000x1_0_0,
        k0_pay2 (k0_pay12 x w1 b1 w2 b2) w3 (constant S1000x32 .f32 0x00000000#32) (bias3 b3) w4 (bias4 b3)⟩]

/-! ## Reading the buffers -/

/-- The origin of a matrix. -/
theorem hz2 : (![0, 0] : Fin 2 → Nat) = fun _ => 0 := by funext i; fin_cases i <;> rfl

/-- The two halves cover the block. -/
theorem cover_out {a b : Vec F S1000x1 .f32} (y : S2000x1.Idx) :
    ∃ p ∈ ([⟨Rect.unit (s := S2000x1) ![1000, 0] S1000x1.size inb_S2000x1_S1000x1_1000_0, a⟩,
      ⟨Rect.unit (s := S2000x1) ![0, 0] S1000x1.size inb_S2000x1_S1000x1_0_0, b⟩] : List (View.Piece (Elt F) S2000x1 .f32)),
      y ∈ p.1.set := by
  have h0 : (y 0).val < 2000 := (y 0).isLt
  have h1 : (y 1).val < 1 := (y 1).isLt
  by_cases h : (y 0).val < 1000
  · refine ⟨_, List.mem_cons_of_mem _ (List.mem_singleton_self _), ?_⟩
    rw [Rect.mem_set_unit]
    intro a; fin_cases a
    · exact ⟨Nat.zero_le _, by show (y 0).val < 0 + 1000; omega⟩
    · exact ⟨Nat.zero_le _, by show (y 1).val < 0 + 1; omega⟩
  · refine ⟨_, List.mem_cons_self, ?_⟩
    rw [Rect.mem_set_unit]
    intro a; fin_cases a
    · exact ⟨by show 1000 ≤ (y 0).val; omega, by show (y 0).val < 1000 + 1000; omega⟩
    · exact ⟨Nat.zero_le _, by show (y 1).val < 0 + 1; omega⟩

/-- The three stores of the bias rows, last first. -/
abbrev rowStores (a b c : Vec F S1x128 .f32) : List (View.Piece (Elt F) S8x128 .f32) :=
  [⟨Rect.unit (s := S8x128) ![2, 0] S1x128.size inb_S8x128_S1x128_2_0, c⟩,
    ⟨Rect.unit (s := S8x128) ![1, 0] S1x128.size inb_S8x128_S1x128_1_0, b⟩,
    ⟨Rect.unit (s := S8x128) ![0, 0] S1x128.size inb_S8x128_S1x128_0_0, a⟩]

/-- The box of one row holds no index of another row. -/
theorem not_mem_row {o o' : Nat} (inb : ∀ a, (![o, 0] : Fin 2 → Nat) a + S1x128.size a ≤ S8x128.size a)
    (inb' : ∀ a, (![o', 0] : Fin 2 → Nat) a + S1x128.size a ≤ S8x128.size a) (h : o' ≠ o) (x : S1x128.Idx) :
    (Rect.unit (s := S8x128) ![o, 0] S1x128.size inb).emb x ∉ (Rect.unit (s := S8x128) ![o', 0] S1x128.size inb').set := by
  rw [Rect.mem_set_unit]
  intro hm
  have hx : (x 0).val < 1 := (x 0).isLt
  have e : ((Rect.unit (s := S8x128) ![o, 0] S1x128.size inb).emb x 0 : Nat) = o + (x 0).val := by
    show o + 1 * (x 0).val = _
    omega
  have h1 : o' ≤ o + (x 0).val := e ▸ (hm 0).1
  have h2 : o + (x 0).val < o' + 1 := e ▸ (hm 0).2
  omega

/-- A row of the buffer, past a store of another row. -/
theorem canon_past_row {o o' : Nat} (inb : ∀ a, (![o, 0] : Fin 2 → Nat) a + S1x128.size a ≤ S8x128.size a)
    (inb' : ∀ a, (![o', 0] : Fin 2 → Nat) a + S1x128.size a ≤ S8x128.size a) (h : o' ≠ o) (w : Vec F S1x128 .f32)
    (L : List (View.Piece (Elt F) S8x128 .f32)) (x : S1x128.Idx) :
    View.canon (⟨Rect.unit (s := S8x128) ![o', 0] S1x128.size inb', w⟩ :: L) ((Rect.unit (s := S8x128) ![o, 0] S1x128.size inb).emb x)
      = View.canon L ((Rect.unit (s := S8x128) ![o, 0] S1x128.size inb).emb x) :=
  View.canon_cons_of_not_mem _ _ (not_mem_row inb inb' h x)

/-- Of the three stored rows the first one reads back. -/
theorem biasRow0_canon (a b c : Vec F S1x128 .f32) : biasRow0 (View.canon (rowStores a b c)) = a := by
  funext x
  have h1 := canon_past_row inb_S8x128_S1x128_0_0 inb_S8x128_S1x128_2_0 (by decide) c (rowStores a b c).tail x
  have h2 := canon_past_row inb_S8x128_S1x128_0_0 inb_S8x128_S1x128_1_0 (by decide) b (rowStores a b c).tail.tail x
  exact h1.trans (h2.trans (View.canon_cons_emb (Rect.unit (s := S8x128) ![0, 0] S1x128.size inb_S8x128_S1x128_0_0) a [] x))

/-- Of the three stored rows the second one reads back. -/
theorem biasRow1_canon (a b c : Vec F S1x128 .f32) : biasRow1 (View.canon (rowStores a b c)) = b := by
  funext x
  have h1 := canon_past_row inb_S8x128_S1x128_1_0 inb_S8x128_S1x128_2_0 (by decide) c (rowStores a b c).tail x
  exact h1.trans (View.canon_cons_emb (Rect.unit (s := S8x128) ![1, 0] S1x128.size inb_S8x128_S1x128_1_0) b _ x)

/-- Of the three stored rows the third one reads back. -/
theorem biasRow2_canon (a b c : Vec F S1x128 .f32) : biasRow2 (View.canon (rowStores a b c)) = c := by
  funext x
  exact View.canon_cons_emb (Rect.unit (s := S8x128) ![2, 0] S1x128.size inb_S8x128_S1x128_2_0) c _ x

/-- Each bias row is held by one of the stores, so any earlier contents leave the same rows. -/
theorem rows_of_writes {v : View sig .tc .vmem S8x128 .f32} (f : v.ty.Contents (Elt F)) (a b c : Vec F S1x128 .f32) :
    biasRow0 (v.read (Elt F) (v.writes (Elt F) f (rowStores a b c))) = a
      ∧ biasRow1 (v.read (Elt F) (v.writes (Elt F) f (rowStores a b c))) = b
      ∧ biasRow2 (v.read (Elt F) (v.writes (Elt F) f (rowStores a b c))) = c := by
  refine ⟨?_, ?_, ?_⟩
  · refine Eq.trans (funext fun x => ?_) (biasRow0_canon a b c)
    exact View.read_writes_apply_eq_canon v f _ _ ⟨_, List.mem_cons_of_mem _ (List.mem_cons_of_mem _ List.mem_cons_self), LoadRect.idx_mem (Rect.unit (s := S8x128) ![0, 0] S1x128.size inb_S8x128_S1x128_0_0).toLoadRect x⟩
  · refine Eq.trans (funext fun x => ?_) (biasRow1_canon a b c)
    exact View.read_writes_apply_eq_canon v f _ _ ⟨_, List.mem_cons_of_mem _ List.mem_cons_self, LoadRect.idx_mem (Rect.unit (s := S8x128) ![1, 0] S1x128.size inb_S8x128_S1x128_1_0).toLoadRect x⟩
  · refine Eq.trans (funext fun x => ?_) (biasRow2_canon a b c)
    exact View.read_writes_apply_eq_canon v f _ _ ⟨_, List.mem_cons_self, LoadRect.idx_mem (Rect.unit (s := S8x128) ![2, 0] S1x128.size inb_S8x128_S1x128_2_0).toLoadRect x⟩

/-- The loads of the dense layers' biases read the third row. -/
theorem ld_bias3 (d : Vec F S8x128 .f32) :
    View.ld d (Rect.unit (s := S8x128) ![2, 0] S1x32.size inb_S8x128_S1x32_2_0) = bias3 (biasRow2 d) := by
  funext x
  show d _ = d _
  refine congrArg d (funext fun a => Fin.ext ?_)
  have hx : (x 0).val < 1 := (x 0).isLt
  fin_cases a
  · show 2 + 1 * (x 0).val = 2 + 1 * 0
    omega
  · rfl

/-- The output layer's bias is read from the third row. -/
theorem ld_bias4 (d : Vec F S8x128 .f32) :
    View.ld d (Rect.unit (s := S8x128) ![2, 32] S1x1.size inb_S8x128_S1x1_2_32) = bias4 (biasRow2 d) := by
  funext x
  show d _ = d _
  refine congrArg d (funext fun a => Fin.ext ?_)
  have hx : (x 0).val < 1 := (x 0).isLt
  have hy : (x 1).val < 1 := (x 1).isLt
  fin_cases a
  · show 2 + 1 * (x 0).val = 2 + 1 * 0
    omega
  · show 32 + 1 * (x 1).val = 0 + 1 * 32
    omega

/-- The two stores of a point, their biases loaded from the bias buffer, leave `outBlk` of the buffer's rows. -/
theorem outBlk_of_loads (x : Vec F S2000x128 .f32) (w1 w2 : Vec F S128x128 .bf16) (w3 : Vec F S64x32 .bf16)
    (w4 : Vec F S32x2 .bf16) (d : Vec F S8x128 .f32) :
    View.canon (Val := Elt F) (s := S2000x1) (e := .f32)
      [⟨Rect.unit (s := S2000x1) ![1000, 0] S1000x1.size inb_S2000x1_S1000x1_1000_0,
          k0_pay3 (k0_pay12 x w1 (biasRow0 d) w2 (biasRow1 d)) w3 (constant S1000x32 .f32 0x00000000#32)
            (View.ld d (Rect.unit (s := S8x128) ![2, 0] S1x32.size inb_S8x128_S1x32_2_0)) w4
            (View.ld d (Rect.unit (s := S8x128) ![2, 32] S1x1.size inb_S8x128_S1x1_2_32))⟩,
        ⟨Rect.unit (s := S2000x1) ![0, 0] S1000x1.size inb_S2000x1_S1000x1_0_0,
          k0_pay2 (k0_pay12 x w1 (biasRow0 d) w2 (biasRow1 d)) w3 (constant S1000x32 .f32 0x00000000#32)
            (View.ld d (Rect.unit (s := S8x128) ![2, 0] S1x32.size inb_S8x128_S1x32_2_0)) w4
            (View.ld d (Rect.unit (s := S8x128) ![2, 32] S1x1.size inb_S8x128_S1x1_2_32))⟩]
      = outBlk x w1 w2 w3 w4 (biasRow0 d) (biasRow1 d) (biasRow2 d) := by
  rw [ld_bias3, ld_bias4]; rfl

end Cert.KernelIdeal.Run

end
-- ==== Proof.Body.lean ====
module

public import proofs.«01_k».proof.Proof.Blocks
public import Idealize.ShloMosaic.Lib.Pipeline.ReadBack
public import Idealize.ShloMosaic.Lib.ValueIdx

/-! The kernel's body at one grid point, as a triple over whatever staging and scratch buffers it is handed.

At the first point the body prepares, in five scratch buffers, the four weight matrices and the three bias rows it
works with; at every point it then computes one block of the result from its block of `x` and those buffers. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- A point after the first: the body reads the prepared buffers as it finds them, keeps them, and writes its block. -/
theorem run_later (c : Dev nD) (i : grid0.Coords)
    (arg1 : Memref sig .tc .vmem S2000x128 .f32) (harg1 : arg1.IsWhole)
    (arg2 : Memref sig .tc .vmem S2x192x64 .f32) (harg2 : arg2.IsWhole)
    (arg3 : Memref sig .tc .vmem S1x64 .f32) (harg3 : arg3.IsWhole)
    (arg4 : Memref sig .tc .vmem S2x192x64 .f32) (harg4 : arg4.IsWhole)
    (arg5 : Memref sig .tc .vmem S1x64 .f32) (harg5 : arg5.IsWhole)
    (arg6 : Memref sig .tc .vmem S2x96x32 .f32) (harg6 : arg6.IsWhole)
    (arg7 : Memref sig .tc .vmem S1x32 .f32) (harg7 : arg7.IsWhole)
    (arg8 : Memref sig .tc .vmem S2x96x32 .f32) (harg8 : arg8.IsWhole)
    (arg9 : Memref sig .tc .vmem S1x32 .f32) (harg9 : arg9.IsWhole)
    (arg10 : Memref sig .tc .vmem S32x16 .f32) (harg10 : arg10.IsWhole)
    (arg11 : Memref sig .tc .vmem S1x16 .f32) (harg11 : arg11.IsWhole)
    (arg12 : Memref sig .tc .vmem S16x1 .f32) (harg12 : arg12.IsWhole)
    (arg13 : Memref sig .tc .vmem S1x1 .f32) (harg13 : arg13.IsWhole)
    (arg14 : Memref sig .tc .vmem S2000x1 .f32) (harg14 : arg14.IsWhole)
    (arg15 : Memref sig .tc .vmem S128x128 .bf16) (harg15 : arg15.IsWhole)
    (arg16 : Memref sig .tc .vmem S128x128 .bf16) (harg16 : arg16.IsWhole)
    (arg17 : Memref sig .tc .vmem S64x32 .bf16) (harg17 : arg17.IsWhole)
    (arg18 : Memref sig .tc .vmem S32x2 .bf16) (harg18 : arg18.IsWhole)
    (arg19 : Memref sig .tc .vmem S8x128 .f32) (harg19 : arg19.IsWhole)
    (hc0 : ¬ firstPoint i)
    (x0 : Vec F S2000x128 .f32) (x1 : Vec F S2x192x64 .f32) (x2 : Vec F S1x64 .f32) (x3 : Vec F S2x192x64 .f32) (x4 : Vec F S1x64 .f32)
    (x5 : Vec F S2x96x32 .f32) (x6 : Vec F S1x32 .f32) (x7 : Vec F S2x96x32 .f32) (x8 : Vec F S1x32 .f32) (x9 : Vec F S32x16 .f32)
    (x10 : Vec F S1x16 .f32) (x11 : Vec F S16x1 .f32) (x12 : Vec F S1x1 .f32)
    (s0 : Vec F S128x128 .bf16) (s1 : Vec F S128x128 .bf16) (s2 : Vec F S64x32 .bf16) (s3 : Vec F S32x2 .bf16) (s4 : Vec F S8x128 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗
            (∃ d, owns (c : Thread nD τ) arg14 fullShare d) ∗
            owns (c : Thread nD τ) arg15 fullShare s0 ∗ owns (c : Thread nD τ) arg16 fullShare s1 ∗ owns (c : Thread nD τ) arg17 fullShare s2 ∗
            owns (c : Thread nD τ) arg18 fullShare s3 ∗ owns (c : Thread nD τ) arg19 fullShare s4 ∗
            (iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗
            owns (c : Thread nD τ) arg14 fullShare (outBlk x0 s0 s1 s2 s3 (biasRow0 s4) (biasRow1 s4) (biasRow2 s4)) ∗
            owns (c : Thread nD τ) arg15 fullShare s0 ∗ owns (c : Thread nD τ) arg16 fullShare s1 ∗ owns (c : Thread nD τ) arg17 fullShare s2 ∗
            owns (c : Thread nD τ) arg18 fullShare s3 ∗ owns (c : Thread nD τ) arg19 fullShare s4) -∗ K ⟨⟩))
        ⊢ wp frame (wpE (defs₀ (F := F)) Variants.none c none) E
            (cc0__fused_kernel i arg1 harg1 arg2 harg2 arg3 harg3 arg4 harg4 arg5 harg5 arg6 harg6 arg7 harg7
            arg8 harg8 arg9 harg9 arg10 harg10 arg11 harg11 arg12 harg12 arg13 harg13 arg14 harg14
            arg15 harg15 arg16 harg16 arg17 harg17 arg18 harg18 arg19 harg19) K := by
  intro E K
  simp only [cc0__fused_kernel_eq_skeleton]; unfold cc0__fused_kernel_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩,
    ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hf5; obtain rfl := harg7.eq_unread hf6; obtain rfl := harg8.eq_unread hf7; obtain rfl := harg9.eq_unread hf8; obtain rfl := harg10.eq_unread hf9
  obtain rfl := harg11.eq_unread hf10; obtain rfl := harg12.eq_unread hf11; obtain rfl := harg13.eq_unread hf12
  obtain rfl := harg15.eq_unread hfs0; obtain rfl := harg16.eq_unread hfs1; obtain rfl := harg17.eq_unread hfs2; obtain rfl := harg18.eq_unread hfs3; obtain rfl := harg19.eq_unread hfs4
  sl_exec (disch := first | sl_exact hc0)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    · ipureintro; exact harg10.read_unread _
    · iexact H9
  isplitl [H10]
  · iexists _; isplitr
    · ipureintro; exact harg11.read_unread _
    · iexact H10
  isplitl [H11]
  · iexists _; isplitr
    · ipureintro; exact harg12.read_unread _
    · iexact H11
  isplitl [H12]
  · iexists _; isplitr
    · ipureintro; exact harg13.read_unread _
    · iexact H12
  isplitl [H13]
  · iexists _; isplitr; swap; iexact H13
    ipureintro
    rw [View.read_writes_eq_canon _ _ _ cover_out]
    sl_unfold_words
    simp (disch := decide) only [View.readAt_eq_ld, Memref.IsWhole.read_unread, View.ld_unit_lit]
    exact outBlk_of_loads _ _ _ _ _ _
  isplitl [HS0]
  · iexists _; isplitr
    · ipureintro; exact harg15.read_unread _
    · iexact HS0
  isplitl [HS1]
  · iexists _; isplitr
    · ipureintro; exact harg16.read_unread _
    · iexact HS1
  isplitl [HS2]
  · iexists _; isplitr
    · ipureintro; exact harg17.read_unread _
    · iexact HS2
  isplitl [HS3]
  · iexists _; isplitr
    · ipureintro; exact harg18.read_unread _
    · iexact HS3
  iexists _; isplitr
  · ipureintro; exact harg19.read_unread _
  · iexact HS4

set_option maxHeartbeats 4000000 in
/-- The first point: the body fills the scratch buffers with the prepared weights and biases, whatever they held, and writes its block. -/
theorem run_first (c : Dev nD) (i : grid0.Coords)
    (arg1 : Memref sig .tc .vmem S2000x128 .f32) (harg1 : arg1.IsWhole)
    (arg2 : Memref sig .tc .vmem S2x192x64 .f32) (harg2 : arg2.IsWhole)
    (arg3 : Memref sig .tc .vmem S1x64 .f32) (harg3 : arg3.IsWhole)
    (arg4 : Memref sig .tc .vmem S2x192x64 .f32) (harg4 : arg4.IsWhole)
    (arg5 : Memref sig .tc .vmem S1x64 .f32) (harg5 : arg5.IsWhole)
    (arg6 : Memref sig .tc .vmem S2x96x32 .f32) (harg6 : arg6.IsWhole)
    (arg7 : Memref sig .tc .vmem S1x32 .f32) (harg7 : arg7.IsWhole)
    (arg8 : Memref sig .tc .vmem S2x96x32 .f32) (harg8 : arg8.IsWhole)
    (arg9 : Memref sig .tc .vmem S1x32 .f32) (harg9 : arg9.IsWhole)
    (arg10 : Memref sig .tc .vmem S32x16 .f32) (harg10 : arg10.IsWhole)
    (arg11 : Memref sig .tc .vmem S1x16 .f32) (harg11 : arg11.IsWhole)
    (arg12 : Memref sig .tc .vmem S16x1 .f32) (harg12 : arg12.IsWhole)
    (arg13 : Memref sig .tc .vmem S1x1 .f32) (harg13 : arg13.IsWhole)
    (arg14 : Memref sig .tc .vmem S2000x1 .f32) (harg14 : arg14.IsWhole)
    (arg15 : Memref sig .tc .vmem S128x128 .bf16) (harg15 : arg15.IsWhole)
    (arg16 : Memref sig .tc .vmem S128x128 .bf16) (harg16 : arg16.IsWhole)
    (arg17 : Memref sig .tc .vmem S64x32 .bf16) (harg17 : arg17.IsWhole)
    (arg18 : Memref sig .tc .vmem S32x2 .bf16) (harg18 : arg18.IsWhole)
    (arg19 : Memref sig .tc .vmem S8x128 .f32) (harg19 : arg19.IsWhole)
    (hc0 : firstPoint i)
    (x0 : Vec F S2000x128 .f32) (x1 : Vec F S2x192x64 .f32) (x2 : Vec F S1x64 .f32) (x3 : Vec F S2x192x64 .f32) (x4 : Vec F S1x64 .f32)
    (x5 : Vec F S2x96x32 .f32) (x6 : Vec F S1x32 .f32) (x7 : Vec F S2x96x32 .f32) (x8 : Vec F S1x32 .f32) (x9 : Vec F S32x16 .f32)
    (x10 : Vec F S1x16 .f32) (x11 : Vec F S16x1 .f32) (x12 : Vec F S1x1 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗
            (∃ d, owns (c : Thread nD τ) arg14 fullShare d) ∗
            (∃ d, owns (c : Thread nD τ) arg15 fullShare d) ∗ (∃ d, owns (c : Thread nD τ) arg16 fullShare d) ∗ (∃ d, owns (c : Thread nD τ) arg17 fullShare d) ∗
            (∃ d, owns (c : Thread nD τ) arg18 fullShare d) ∗ (∃ d, owns (c : Thread nD τ) arg19 fullShare d) ∗
            (iprop(owns (c : Thread nD τ) arg1 fullShare x0 ∗ owns (c : Thread nD τ) arg2 fullShare x1 ∗ owns (c : Thread nD τ) arg3 fullShare x2 ∗
            owns (c : Thread nD τ) arg4 fullShare x3 ∗ owns (c : Thread nD τ) arg5 fullShare x4 ∗ owns (c : Thread nD τ) arg6 fullShare x5 ∗
            owns (c : Thread nD τ) arg7 fullShare x6 ∗ owns (c : Thread nD τ) arg8 fullShare x7 ∗ owns (c : Thread nD τ) arg9 fullShare x8 ∗
            owns (c : Thread nD τ) arg10 fullShare x9 ∗ owns (c : Thread nD τ) arg11 fullShare x10 ∗ owns (c : Thread nD τ) arg12 fullShare x11 ∗
            owns (c : Thread nD τ) arg13 fullShare x12 ∗
            owns (c : Thread nD τ) arg14 fullShare
              (outBlk x0 (prepW1 x1 x3) (prepW2 x5 x7) (k0_pay9 x9) (k0_pay11 x11 x11) (k0_pay5 x2 x4) (k0_pay8 x6 x8 x8) (k0_pay10 x10 x12)) ∗
            owns (c : Thread nD τ) arg15 fullShare (prepW1 x1 x3) ∗ owns (c : Thread nD τ) arg16 fullShare (prepW2 x5 x7) ∗
            owns (c : Thread nD τ) arg17 fullShare (k0_pay9 x9) ∗ owns (c : Thread nD τ) arg18 fullShare (k0_pay11 x11 x11) ∗
            (∃ d, ⌜biasRow0 d = k0_pay5 x2 x4 ∧ biasRow1 d = k0_pay8 x6 x8 x8 ∧ biasRow2 d = k0_pay10 x10 x12⌝ ∗
              owns (c : Thread nD τ) arg19 fullShare d)) -∗ K ⟨⟩))
        ⊢ wp frame (wpE (defs₀ (F := F)) Variants.none c none) E
            (cc0__fused_kernel i arg1 harg1 arg2 harg2 arg3 harg3 arg4 harg4 arg5 harg5 arg6 harg6 arg7 harg7
            arg8 harg8 arg9 harg9 arg10 harg10 arg11 harg11 arg12 harg12 arg13 harg13 arg14 harg14
            arg15 harg15 arg16 harg16 arg17 harg17 arg18 harg18 arg19 harg19) K := by
  intro E K
  simp only [cc0__fused_kernel_eq_skeleton]; unfold cc0__fused_kernel_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩,
    ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4
  obtain rfl := harg6.eq_unread hf5; obtain rfl := harg7.eq_unread hf6; obtain rfl := harg8.eq_unread hf7; obtain rfl := harg9.eq_unread hf8; obtain rfl := harg10.eq_unread hf9
  obtain rfl := harg11.eq_unread hf10; obtain rfl := harg12.eq_unread hf11; obtain rfl := harg13.eq_unread hf12
  sl_exec (disch := first | sl_exact hc0)
  sl_step
  iapply Hk
  isplitl [H0]
  · iexists _; isplitr
    · ipureintro; exact harg1.read_unread _
    · iexact H0
  isplitl [H1]
  · iexists _; isplitr
    · ipureintro; exact harg2.read_unread _
    · iexact H1
  isplitl [H2]
  · iexists _; isplitr
    · ipureintro; exact harg3.read_unread _
    · iexact H2
  isplitl [H3]
  · iexists _; isplitr
    · ipureintro; exact harg4.read_unread _
    · iexact H3
  isplitl [H4]
  · iexists _; isplitr
    · ipureintro; exact harg5.read_unread _
    · iexact H4
  isplitl [H5]
  · iexists _; isplitr
    · ipureintro; exact harg6.read_unread _
    · iexact H5
  isplitl [H6]
  · iexists _; isplitr
    · ipureintro; exact harg7.read_unread _
    · iexact H6
  isplitl [H7]
  · iexists _; isplitr
    · ipureintro; exact harg8.read_unread _
    · iexact H7
  isplitl [H8]
  · iexists _; isplitr
    · ipureintro; exact harg9.read_unread _
    · iexact H8
  isplitl [H9]
  · iexists _; isplitr
    · ipureintro; exact harg10.read_unread _
    · iexact H9
  isplitl [H10]
  · iexists _; isplitr
    · ipureintro; exact harg11.read_unread _
    · iexact H10
  isplitl [H11]
  · iexists _; isplitr
    · ipureintro; exact harg12.read_unread _
    · iexact H11
  isplitl [H12]
  · iexists _; isplitr
    · ipureintro; exact harg13.read_unread _
    · iexact H12
  isplitl [H13]
  · iexists _; isplitr; swap; iexact H13
    ipureintro
    rw [View.read_writes_eq_canon _ _ _ cover_out]
    sl_unfold_words
    simp (disch := decide) only [↓ View.readCov_unit_lit, View.readCov_eq_canon', View.readAt_eq_ld, Memref.IsWhole.read_unread, View.ld_unit_lit]
    refine (outBlk_of_loads _ _ _ _ _ (View.canon (rowStores (k0_pay5 x2 x4) (k0_pay8 x6 x8 x8) (k0_pay10 x10 x12)))).trans ?_
    rw [biasRow0_canon, biasRow1_canon, biasRow2_canon]
    rfl
  isplitl [HS0]
  · iexists _; isplitr; swap; iexact HS0
    ipureintro
    sl_unfold_words
    rw [View.read_writes_eq_canon _ _ _ (fun y => ⟨_, List.mem_singleton_self _, View.mem_set_unit_zero hz2 (by decide) y⟩)]
    simp (disch := decide) only [View.canon_cons_unit_lit, View.readAt_eq_ld, Memref.IsWhole.read_unread, View.ld_unit_lit]
    rfl
  isplitl [HS1]
  · iexists _; isplitr; swap; iexact HS1
    ipureintro
    sl_unfold_words
    rw [View.read_writes_eq_canon _ _ _ (fun y => ⟨_, List.mem_singleton_self _, View.mem_set_unit_zero hz2 (by decide) y⟩)]
    simp (disch := decide) only [View.canon_cons_unit_lit, View.readAt_eq_ld, Memref.IsWhole.read_unread, View.ld_unit_lit]
    rfl
  isplitl [HS2]
  · iexists _; isplitr; swap; iexact HS2
    ipureintro
    sl_unfold_words
    rw [View.read_writes_eq_canon _ _ _ (fun y => ⟨_, List.mem_singleton_self _, View.mem_set_unit_zero hz2 (by decide) y⟩)]
    simp (disch := decide) only [View.canon_cons_unit_lit, View.readAt_eq_ld, Memref.IsWhole.read_unread, View.ld_unit_lit]
  isplitl [HS3]
  · iexists _; isplitr; swap; iexact HS3
    ipureintro
    sl_unfold_words
    rw [View.read_writes_eq_canon _ _ _ (fun y => ⟨_, List.mem_singleton_self _, View.mem_set_unit_zero hz2 (by decide) y⟩)]
    simp (disch := decide) only [View.canon_cons_unit_lit, View.readAt_eq_ld, Memref.IsWhole.read_unread, View.ld_unit_lit]
  iexists _; isplitr; swap
  · iexists _; isplitr; swap; iexact HS4
    ipureintro; rfl
  ipureintro
  sl_unfold_words
  simp (disch := decide) only [View.readAt_eq_ld, Memref.IsWhole.read_unread, View.ld_unit_lit]
  exact rows_of_writes _ _ _ _

end Cert.KernelIdeal.Run

end
-- ==== Proof.Run.lean ====
module

public import proofs.«01_k».proof.Proof.Body
public import Idealize.ShloMosaic.Lib.Claim
public import Idealize.ShloMosaic.Lib.Pipeline.ReadBack
public import Idealize.ShloMosaic.Lib.ValueIdx

/-! The kernel's run: every grid point finds the prepared weights and biases that the first one left, so each block of
the result is `outBlk` of its own block of `x` and of the same prepared operands. -/

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first point -/

/-- The test holds at the first point and at no other. -/
theorem firstPoint_iff : ∀ t : Fin cfg0.N, firstPoint (grid0.coords t) ↔ t.val % 5 = 0 :=
  (fun t => by
    have ht : t.val < 5 := Nat.lt_of_lt_of_eq t.isLt N_0
    have e0 : (grid0.coords t 0).val = t.val / 1 % 5 := Pipeline.Grid.coords_val t 0 (by decide) rfl
    simp only [firstPoint, e0]
    word_cmp
   : ∀ t : Fin grid0.N, firstPoint (grid0.coords t) ↔ t.val % 5 = 0)

/-! ## The prepared operands

The windows of the weights and biases have one block, the same at every point; `p0` is the point that fetched it. -/

/-- The first point. -/
abbrev p0 : Fin cfg0.N := t0_0

/-- The first layer's prepared weights: both gates, half the update gate's. -/
def w1 (c : Dev nD) : Vec F S128x128 .bf16 := prepW1 (iblk m c 1 p0) (iblk m c 3 p0)
/-- The second layer's prepared weights, for two rows side by side. -/
def w2 (c : Dev nD) : Vec F S128x128 .bf16 := prepW2 (iblk m c 5 p0) (iblk m c 7 p0)
/-- The third layer's prepared weights, for two rows side by side. -/
def w3 (c : Dev nD) : Vec F S64x32 .bf16 := k0_pay9 (iblk m c 9 p0)
/-- The output layer's prepared weights, for two rows side by side. -/
def w4 (c : Dev nD) : Vec F S32x2 .bf16 := k0_pay11 (iblk m c 11 p0) (iblk m c 11 p0)
/-- The first layer's prepared biases. -/
def b1 (c : Dev nD) : Vec F S1x128 .f32 := k0_pay5 (iblk m c 2 p0) (iblk m c 4 p0)
/-- The second layer's prepared biases, for two rows side by side. -/
def b2 (c : Dev nD) : Vec F S1x128 .f32 := k0_pay8 (iblk m c 6 p0) (iblk m c 8 p0) (iblk m c 8 p0)
/-- The third layer's biases, twice, and the output layer's. -/
def b3 (c : Dev nD) : Vec F S1x128 .f32 := k0_pay10 (iblk m c 10 p0) (iblk m c 12 p0)

/-- The block of the result point `t` writes. -/
def outAt (c : Dev nD) (t : Fin cfg0.N) : Vec F S2000x1 .f32 :=
  outBlk (iblk m c 0 t) (w1 m c) (w2 m c) (w3 m c) (w4 m c) (b1 m c) (b2 m c) (b3 m c)

/-! ## The proof data -/

/-- The scratch buffer of the first layer's weights. -/
abbrev st0 : Memref sig .tc .vmem S128x128 .bf16 := Memref.whole cc0_scratch0
/-- The scratch buffer of the second layer's weights. -/
abbrev st1 : Memref sig .tc .vmem S128x128 .bf16 := Memref.whole cc0_scratch1
/-- The scratch buffer of the third layer's weights. -/
abbrev st2 : Memref sig .tc .vmem S64x32 .bf16 := Memref.whole cc0_scratch2
/-- The scratch buffer of the output layer's weights. -/
abbrev st3 : Memref sig .tc .vmem S32x2 .bf16 := Memref.whole cc0_scratch3
/-- The scratch buffer of the bias rows. -/
abbrev st4 : Memref sig .tc .vmem S8x128 .f32 := Memref.whole cc0_scratch4

/-- The invariant before the first point, the scratch buffers spelled as memrefs held at some contents. -/
theorem PhiA_eq (c : Dev nD) :
    (Pipeline.ΦA spec0 c : sProp 𝕄)
      = iprop(iprop((∃ d, owns (c : Thread nD τ) st0 fullShare d) ∗ (∃ d, owns (c : Thread nD τ) st1 fullShare d)
          ∗ (∃ d, owns (c : Thread nD τ) st2 fullShare d) ∗ (∃ d, owns (c : Thread nD τ) st3 fullShare d)
          ∗ (∃ d, owns (c : Thread nD τ) st4 fullShare d)) ∗ (∃ r, prngReg c r)) := by
  unfold Pipeline.ΦA; rw [scopedRest0_eq]; simp only [st0, st1, st2, st3, st4, owns_whole]; try rfl

/-- What the scratch buffers hold after any point: the prepared weights, and a bias buffer with the prepared rows. -/
def prepared (c : Dev nD) : sProp 𝕄 :=
  iprop(iprop(owns (c : Thread nD τ) st0 fullShare (w1 m c) ∗ owns (c : Thread nD τ) st1 fullShare (w2 m c)
      ∗ owns (c : Thread nD τ) st2 fullShare (w3 m c) ∗ owns (c : Thread nD τ) st3 fullShare (w4 m c)
      ∗ (∃ d, ⌜biasRow0 d = b1 m c ∧ biasRow1 d = b2 m c ∧ biasRow2 d = b3 m c⌝ ∗ owns (c : Thread nD τ) st4 fullShare d))
    ∗ (∃ r, prngReg c r))

/-- The invariant at point `t`: before the first point the scratch buffers hold anything, afterwards `prepared`. -/
def inv (c : Dev nD) (n : Nat) : sProp 𝕄 := if n = 0 then Pipeline.ΦA spec0 c else prepared m c

/-- After a point the scratch buffers are prepared. -/
theorem inv_succ (c : Dev nD) (n : Nat) : inv m c (n + 1) = prepared m c := if_neg (Nat.succ_ne_zero n)

/-- The proof data: each input's buffer keeps its block, the result's buffer ends each point at `outAt`, and the
invariant is `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t
  Φ t := inv m c t.val
  q _ := fullShare
  owed _ := 0

/-- Each array starts at its contents when the launch is reached. -/
theorem A_eq (c : Dev nD) (w : Fin cfg0.W) : (dats m 0 c).A w = V m c (Pipeline.arrRef spec0 w) := by dsimp only [dats]

/-- The body leaves the block of the features. -/
theorem after_0 (c : Dev nD) (t : Fin cfg0.N) : (dats m 0 c).after 0 t = iblk m c 0 t := by dsimp only [dats]
/-- The body leaves the block of the first layer's update gate. -/
theorem after_1 (c : Dev nD) (t : Fin cfg0.N) : (dats m 0 c).after 1 t = iblk m c 1 t := by dsimp only [dats]
/-- The body leaves the block of the first layer's update bias. -/
theorem after_2 (c : Dev nD) (t : Fin cfg0.N) : (dats m 0 c).after 2 t = iblk m c 2 t := by dsimp only [dats]
/-- The body leaves the block of the first layer's candidate. -/
theorem after_3 (c : Dev nD) (t : Fin cfg0.N) : (dats m 0 c).after 3 t = iblk m c 3 t := by dsimp only [dats]
/-- The body leaves the block of the first layer's candidate bias. -/
theorem after_4 (c : Dev nD) (t : Fin cfg0.N) : (dats m 0 c).after 4 t = iblk m c 4 t := by dsimp only [dats]
/-- The body leaves the block of the second layer's update gate. -/
theorem after_5 (c : Dev nD) (t : Fin cfg0.N) : (dats m 0 c).after 5 t = iblk m c 5 t := by dsimp only [dats]
/-- The body leaves the block of the second layer's update bias. -/
theorem after_6 (c : Dev nD) (t : Fin cfg0.N) : (dats m 0 c).after 6 t = iblk m c 6 t := by dsimp only [dats]
/-- The body leaves the block of the second layer's candidate. -/
theorem after_7 (c : Dev nD) (t : Fin cfg0.N) : (dats m 0 c).after 7 t = iblk m c 7 t := by dsimp only [dats]
/-- The body leaves the block of the second layer's candidate bias. -/
theorem after_8 (c : Dev nD) (t : Fin cfg0.N) : (dats m 0 c).after 8 t = iblk m c 8 t := by dsimp only [dats]
/-- The body leaves the block of the third layer's weights. -/
theorem after_9 (c : Dev nD) (t : Fin cfg0.N) : (dats m 0 c).after 9 t = iblk m c 9 t := by dsimp only [dats]
/-- The body leaves the block of the third layer's bias. -/
theorem after_10 (c : Dev nD) (t : Fin cfg0.N) : (dats m 0 c).after 10 t = iblk m c 10 t := by dsimp only [dats]
/-- The body leaves the block of the output layer's weights. -/
theorem after_11 (c : Dev nD) (t : Fin cfg0.N) : (dats m 0 c).after 11 t = iblk m c 11 t := by dsimp only [dats]
/-- The body leaves the block of the output layer's bias. -/
theorem after_12 (c : Dev nD) (t : Fin cfg0.N) : (dats m 0 c).after 12 t = iblk m c 12 t := by dsimp only [dats]
/-- The body leaves its block of the result. -/
theorem after_13 (c : Dev nD) (t : Fin cfg0.N) : (dats m 0 c).after 13 t = outAt m c t := by dsimp only [dats]

/-- The body finds the block of the features. -/
theorem before_0 (c : Dev nD) (t : Fin cfg0.N) (d) : (dats m 0 c).before 0 t d = iblk m c 0 t :=
  before0_0_of m (dats m 0 c) (A_eq m c 0) (after_0 m c) t d
/-- The body finds the block of the first layer's update gate. -/
theorem before_1 (c : Dev nD) (t : Fin cfg0.N) (d) : (dats m 0 c).before 1 t d = iblk m c 1 t :=
  before0_1_of m (dats m 0 c) (A_eq m c 1) (after_1 m c) t d
/-- The body finds the block of the first layer's update bias. -/
theorem before_2 (c : Dev nD) (t : Fin cfg0.N) (d) : (dats m 0 c).before 2 t d = iblk m c 2 t :=
  before0_2_of m (dats m 0 c) (A_eq m c 2) (after_2 m c) t d
/-- The body finds the block of the first layer's candidate. -/
theorem before_3 (c : Dev nD) (t : Fin cfg0.N) (d) : (dats m 0 c).before 3 t d = iblk m c 3 t :=
  before0_3_of m (dats m 0 c) (A_eq m c 3) (after_3 m c) t d
/-- The body finds the block of the first layer's candidate bias. -/
theorem before_4 (c : Dev nD) (t : Fin cfg0.N) (d) : (dats m 0 c).before 4 t d = iblk m c 4 t :=
  before0_4_of m (dats m 0 c) (A_eq m c 4) (after_4 m c) t d
/-- The body finds the block of the second layer's update gate. -/
theorem before_5 (c : Dev nD) (t : Fin cfg0.N) (d) : (dats m 0 c).before 5 t d = iblk m c 5 t :=
  before0_5_of m (dats m 0 c) (A_eq m c 5) (after_5 m c) t d
/-- The body finds the block of the second layer's update bias. -/
theorem before_6 (c : Dev nD) (t : Fin cfg0.N) (d) : (dats m 0 c).before 6 t d = iblk m c 6 t :=
  before0_6_of m (dats m 0 c) (A_eq m c 6) (after_6 m c) t d
/-- The body finds the block of the second layer's candidate. -/
theorem before_7 (c : Dev nD) (t : Fin cfg0.N) (d) : (dats m 0 c).before 7 t d = iblk m c 7 t :=
  before0_7_of m (dats m 0 c) (A_eq m c 7) (after_7 m c) t d
/-- The body finds the block of the second layer's candidate bias. -/
theorem before_8 (c : Dev nD) (t : Fin cfg0.N) (d) : (dats m 0 c).before 8 t d = iblk m c 8 t :=
  before0_8_of m (dats m 0 c) (A_eq m c 8) (after_8 m c) t d
/-- The body finds the block of the third layer's weights. -/
theorem before_9 (c : Dev nD) (t : Fin cfg0.N) (d) : (dats m 0 c).before 9 t d = iblk m c 9 t :=
  before0_9_of m (dats m 0 c) (A_eq m c 9) (after_9 m c) t d
/-- The body finds the block of the third layer's bias. -/
theorem before_10 (c : Dev nD) (t : Fin cfg0.N) (d) : (dats m 0 c).before 10 t d = iblk m c 10 t :=
  before0_10_of m (dats m 0 c) (A_eq m c 10) (after_10 m c) t d
/-- The body finds the block of the output layer's weights. -/
theorem before_11 (c : Dev nD) (t : Fin cfg0.N) (d) : (dats m 0 c).before 11 t d = iblk m c 11 t :=
  before0_11_of m (dats m 0 c) (A_eq m c 11) (after_11 m c) t d
/-- The body finds the block of the output layer's bias. -/
theorem before_12 (c : Dev nD) (t : Fin cfg0.N) (d) : (dats m 0 c).before 12 t d = iblk m c 12 t :=
  before0_12_of m (dats m 0 c) (A_eq m c 12) (after_12 m c) t d

/-! ## The body obligation -/

/-- The staging buffer of the features. -/
abbrev ms0 (t : Fin cfg0.N) : Memref sig .tc .vmem S2000x128 .f32 := win0_0.stage (cfg0.slots t 0)
/-- The staging buffer of the first layer's update gate. -/
abbrev ms1 (t : Fin cfg0.N) : Memref sig .tc .vmem S2x192x64 .f32 := win0_1.stage (cfg0.slots t 1)
/-- The staging buffer of the first layer's update bias. -/
abbrev ms2 (t : Fin cfg0.N) : Memref sig .tc .vmem S1x64 .f32 := win0_2.stage (cfg0.slots t 2)
/-- The staging buffer of the first layer's candidate. -/
abbrev ms3 (t : Fin cfg0.N) : Memref sig .tc .vmem S2x192x64 .f32 := win0_3.stage (cfg0.slots t 3)
/-- The staging buffer of the first layer's candidate bias. -/
abbrev ms4 (t : Fin cfg0.N) : Memref sig .tc .vmem S1x64 .f32 := win0_4.stage (cfg0.slots t 4)
/-- The staging buffer of the second layer's update gate. -/
abbrev ms5 (t : Fin cfg0.N) : Memref sig .tc .vmem S2x96x32 .f32 := win0_5.stage (cfg0.slots t 5)
/-- The staging buffer of the second layer's update bias. -/
abbrev ms6 (t : Fin cfg0.N) : Memref sig .tc .vmem S1x32 .f32 := win0_6.stage (cfg0.slots t 6)
/-- The staging buffer of the second layer's candidate. -/
abbrev ms7 (t : Fin cfg0.N) : Memref sig .tc .vmem S2x96x32 .f32 := win0_7.stage (cfg0.slots t 7)
/-- The staging buffer of the second layer's candidate bias. -/
abbrev ms8 (t : Fin cfg0.N) : Memref sig .tc .vmem S1x32 .f32 := win0_8.stage (cfg0.slots t 8)
/-- The staging buffer of the third layer's weights. -/
abbrev ms9 (t : Fin cfg0.N) : Memref sig .tc .vmem S32x16 .f32 := win0_9.stage (cfg0.slots t 9)
/-- The staging buffer of the third layer's bias. -/
abbrev ms10 (t : Fin cfg0.N) : Memref sig .tc .vmem S1x16 .f32 := win0_10.stage (cfg0.slots t 10)
/-- The staging buffer of the output layer's weights. -/
abbrev ms11 (t : Fin cfg0.N) : Memref sig .tc .vmem S16x1 .f32 := win0_11.stage (cfg0.slots t 11)
/-- The staging buffer of the output layer's bias. -/
abbrev ms12 (t : Fin cfg0.N) : Memref sig .tc .vmem S1x1 .f32 := win0_12.stage (cfg0.slots t 12)
/-- The staging buffer of the result. -/
abbrev ms13 (t : Fin cfg0.N) : Memref sig .tc .vmem S2000x1 .f32 := win0_13.stage (cfg0.slots t 13)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

set_option maxHeartbeats 3200000 in
/-- The body at any point: the first prepares the scratch buffers, a later one finds them prepared. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = inv m c (t.val + 1) from rfl, inv_succ,
    show (dats m 0 c).Φ t.castSucc = inv m c t.val from rfl,
    show (dats m 0 c).owesAt () t.succ = (dats m 0 c).owesAt () t.castSucc from rfl,
    after_0, after_1, after_2, after_3, after_4, after_5, after_6, after_7, after_8, after_9, after_10, after_11, after_12, after_13]
  have hN : t.val < 5 := lt_of_lt_of_eq t.isLt (show cfg0.N = 5 from N_0)
  by_cases h0 : t.val = 0
  · rw [inv, if_pos h0, PhiA_eq]
    unfold prepared
    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run_first c (grid0.coords t) _ _ _ _ _ _ _ _ _ _ _ _ _ _ _ _ _ _ _ _ _ _ _ _ _ _ _ _ _ _ _ _ _ _ _ _ _ _
      ((firstPoint_iff t).mpr (by omega))
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [inv, if_neg h0]
    unfold prepared
    iintro ⟨⟨⟨HS0, HS1, HS2, HS3, ⟨%d, %hd, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    obtain ⟨hd0, hd1, hd2⟩ := hd
    rw [outAt, ← hd0, ← hd1, ← hd2]
    iapply (run_later c (grid0.coords t) _ _ _ _ _ _ _ _ _ _ _ _ _ _ _ _ _ _ _ _ _ _ _ _ _ _ _ _ _ _ _ _ _ _ _ _ _ _
      (fun h => h0 (by have := (firstPoint_iff t).mp h; omega))
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t)
      (w1 m c) (w2 m c) (w3 m c) (w4 m c) d Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, H12, H13, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexact HS3
        iexists d; isplitr
        · ipureintro; exact ⟨rfl, rfl, rfl⟩
        · iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at point `t`'s slots is the body. -/
theorem row_eq (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## The run -/

/-- The invariant after the last point gives the scratch buffers back. -/
theorem inv_last (c : Dev nD) : prepared m c ⊢ (Pipeline.ΦA spec0 c : sProp 𝕄) := by
  rw [PhiA_eq]; unfold prepared
  iintro ⟨⟨HS0, HS1, HS2, HS3, ⟨%d, %hd, HS4⟩⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists d; iexact HS4
  iexact Hg

set_option backward.isDefEq.respectTransparency.types false in
/-- The launch terminates with every array at the contents the proof data names and every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by show _ ⊢ inv m c 0; rw [inv, if_pos rfl])
    (hout := fun c => by
      show inv m c cfg0.N ⊢ _
      rw [inv, if_neg (by rw [show cfg0.N = 5 from N_0]; decide)]
      exact inv_last m c)

/-- The launch terminates with every array at the contents the proof data names. -/
theorem run_main : θ_run defs (onTc (τ := τ) (main (F := F))) (s₀ m ρ) (Pipeline.FramePost cfgs (dats m) 0 (V m)) :=
  (θ_run defs _ _).mono (fun _ h => h.1) (run_quiescent m ρ)

end Cert.KernelIdeal.Run

end
-- ==== Proof.Same.lean ====
/- The kernel as written and the kernel read at the ideal instance are the same text, so they are the same program at any
floats: what is proved of one holds of the other. -/
module

public import proofs.«01_k».proof.Proof.Gen.Kernel
public import proofs.«01_k».proof.Proof.Gen.KernelIdeal

@[expose] public section

noncomputable section

namespace Cert.Same

open Idealize.ShloMosaic

variable {F : FTy → Type} [FloatOps F]

/-- The two tables of bodies are one table. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- The two programs' tables are one table. -/
theorem defs_eq : Cert.Kernel.defs (F := F) = Cert.KernelIdeal.defs (F := F) :=
  congrArg (Pipeline.defs Cert.KernelIdeal.pcfgs) bodies_eq

/-- The two host programs are one program. -/
theorem main_eq : Cert.Kernel.main (F := F) = Cert.KernelIdeal.main (F := F) := rfl

end Cert.Same

end
-- ==== Proof.Gate.lean ====
/- The arithmetic of one row of the network over the extended reals: the layers as the reference computes them, and the
identities by which the kernel's rescaled layers equal them. -/
module

public import Idealize.ShloMosaic.PureOps.Ideal
public import Idealize.ShloMosaic.PureOps.Ideal.Laws
public import Idealize.ShloMosaic.Lib.IdealHost
public import Idealize.ShloMosaic.Lib.Pointwise
public import Mathlib.Data.EReal.Operations
public import Mathlib.Analysis.SpecialFunctions.Trigonometric.DerivHyp

@[expose] public section

noncomputable section

namespace Cert.Row

open Idealize.ShloMosaic
open scoped BigOperators

/-! ## The layers of one row -/

/-- A linear layer whose weights come as two matrices, each multiplied in separately, with a bias. -/
def lin2 {n k : ℕ} (u : Fin n → EReal) (w w' : Fin n → Fin k → EReal) (b : Fin k → EReal) (j : Fin k) : EReal :=
  ∑ i, u i * w i j + ∑ i, u i * w' i j + b j

/-- A recurrent cell's output from the zero state, after `relu`: `max ((1 - σ z) · tanh h) 0`. -/
def cell (z h : EReal) : EReal := max ((1 - Ideal.logistic z) * Ideal.tanh h) 0

/-- A recurrent layer: the cell of the two gates' linear layers. -/
def layer {n k : ℕ} (u : Fin n → EReal) (z z' h h' : Fin n → Fin k → EReal) (bz bh : Fin k → EReal) (j : Fin k) : EReal :=
  cell (lin2 u z z' bz j) (lin2 u h h' bh j)

/-- A dense layer. -/
def dense {n k : ℕ} (u : Fin n → EReal) (w : Fin n → Fin k → EReal) (b : Fin k → EReal) (j : Fin k) : EReal :=
  ∑ i, u i * w i j + b j

/-- One of the two weight matrices of a gate, cut to the rows that meet the layer's input. -/
def gateW {n N K : ℕ} (hn : n ≤ N) (w : (⟨3, ![2, N, K]⟩ : Shape).Idx → EReal) (g : Fin 2) (i : Fin n) (j : Fin K) : EReal :=
  w (ix3 g (i.castLE hn) j)

/-- A matrix as a function of its two coordinates. -/
def mat {n K : ℕ} (w : (⟨2, ![n, K]⟩ : Shape).Idx → EReal) (i : Fin n) (j : Fin K) : EReal := w (ix2 i j)

/-- The network's value on one row `u`: two recurrent layers, a dense layer with `relu`, a dense layer. -/
def rowValue (u : Fin 128 → EReal) (z h : (⟨3, ![2, 192, 64]⟩ : Shape).Idx → EReal) (bz bh : Fin 64 → EReal)
    (z' h' : (⟨3, ![2, 96, 32]⟩ : Shape).Idx → EReal) (bz' bh' : Fin 32 → EReal)
    (l : (⟨2, ![32, 16]⟩ : Shape).Idx → EReal) (c : Fin 16 → EReal)
    (l' : (⟨2, ![16, 1]⟩ : Shape).Idx → EReal) (c' : Fin 1 → EReal) : EReal :=
  dense (fun k => max (dense (layer (layer u (gateW (by decide) z 0) (gateW (by decide) z 1) (gateW (by decide) h 0)
      (gateW (by decide) h 1) bz bh) (gateW (by decide) z' 0) (gateW (by decide) z' 1) (gateW (by decide) h' 0)
      (gateW (by decide) h' 1) bz' bh') (mat l) c k) 0) (mat l') c' 0

/-- The network's value on every row of `x`, as an array of one column. -/
def network (x : (⟨2, ![10000, 128]⟩ : Shape).Idx → EReal) (z h : (⟨3, ![2, 192, 64]⟩ : Shape).Idx → EReal)
    (bz bh : (⟨1, ![64]⟩ : Shape).Idx → EReal) (z' h' : (⟨3, ![2, 96, 32]⟩ : Shape).Idx → EReal)
    (bz' bh' : (⟨1, ![32]⟩ : Shape).Idx → EReal) (l : (⟨2, ![32, 16]⟩ : Shape).Idx → EReal)
    (c : (⟨1, ![16]⟩ : Shape).Idx → EReal) (l' : (⟨2, ![16, 1]⟩ : Shape).Idx → EReal)
    (c' : (⟨1, ![1]⟩ : Shape).Idx → EReal) : (⟨2, ![10000, 1]⟩ : Shape).Idx → EReal :=
  fun i => rowValue (fun k => x (ix2 (n0 := 10000) (i 0) k)) z h (fun j => bz (ix1 j)) (fun j => bh (ix1 j)) z' h'
    (fun j => bz' (ix1 j)) (fun j => bh' (ix1 j)) l (fun j => c (ix1 j)) l' (fun j => c' (ix1 j))

/-- The gate as the kernel computes it: the update gate's argument halved, `tanh` in place of the sigmoid. -/
def gate2 (z h : EReal) : EReal := max ((1 - Ideal.tanh z) * Ideal.tanh h) 0

/-! ## Two halves -/

/-- The `k`-th place of the first or the second half of a doubled range. -/
def half {n N : ℕ} (hN : N = n + n) : Fin 2 → Fin n → Fin N
  | 0, k => ⟨k.val, by have := k.isLt; omega⟩
  | 1, k => ⟨n + k.val, by have := k.isLt; omega⟩

/-- The first half keeps the place. -/
theorem half_zero_val {n N : ℕ} (hN : N = n + n) (k : Fin n) : (half hN 0 k).val = k.val := by
  unfold half; rfl

/-- The second half is moved by the half's length. -/
theorem half_one_val {n N : ℕ} (hN : N = n + n) (k : Fin n) : (half hN 1 k).val = n + k.val := by
  unfold half; rfl

/-- Every place of a doubled range is a place of one of the halves. -/
theorem exists_half {n N : ℕ} (hN : N = n + n) (i : Fin N) : ∃ p k, half hN p k = i := by
  have hi := i.isLt
  by_cases h : i.val < n
  · exact ⟨0, ⟨i.val, h⟩, Fin.ext (half_zero_val hN _)⟩
  · exact ⟨1, ⟨i.val - n, by omega⟩, Fin.ext ((half_one_val hN _).trans (by simp only; omega))⟩

/-- A sum over a doubled range is the sum of its halves. -/
theorem sum_half {n N : ℕ} (hN : N = n + n) (f : Fin N → EReal) :
    ∑ i, f i = ∑ k, f (half hN 0 k) + ∑ k, f (half hN 1 k) := by
  subst hN
  exact Fin.sum_univ_add f

/-- A sum over a doubled range whose other half vanishes is the sum over the one half. -/
theorem sum_half_of_zero {n N : ℕ} (hN : N = n + n) (p : Fin 2) (f : Fin N → EReal)
    (hz : ∀ q, q ≠ p → ∀ k, f (half hN q k) = 0) : ∑ i, f i = ∑ k, f (half hN p k) := by
  rw [sum_half hN]
  rcases (by omega : p = 0 ∨ p = 1) with rfl | rfl
  · rw [Finset.sum_eq_zero fun k _ => hz 1 (by decide) k, add_zero]
  · rw [Finset.sum_eq_zero fun k _ => hz 0 (by decide) k, zero_add]

/-! ## The sigmoid and `tanh` -/

/-- An extended real that is a real number. -/
def IsReal (a : EReal) : Prop := ∃ r : ℝ, a = r

/-- `tanh` of an extended real is a real number. -/
theorem tanh_isReal (h : EReal) : IsReal (Ideal.tanh h) := by
  induction h with
  | bot => exact ⟨-1, rfl⟩
  | top => exact ⟨1, rfl⟩
  | coe r => exact ⟨Real.tanh r, rfl⟩

/-- `1 - tanh (u / 2)` is twice `1 - σ u`, both real numbers. -/
theorem real_one_sub_tanh (u : ℝ) : 1 - Real.tanh (u * (1 / 2)) = 2 * (1 - (1 + Real.exp (-u))⁻¹) := by
  have h1 : Real.exp (-u) = Real.exp (-(u * (1 / 2))) * Real.exp (-(u * (1 / 2))) := by rw [← Real.exp_add]; ring_nf
  have h2 : Real.exp (u * (1 / 2)) * Real.exp (-(u * (1 / 2))) = 1 := by rw [← Real.exp_add]; simp
  have hp : 0 < Real.exp (u * (1 / 2)) := Real.exp_pos _
  have hq : 0 < Real.exp (-(u * (1 / 2))) := Real.exp_pos _
  rw [h1, Real.tanh_eq_sinh_div_cosh, Real.sinh_eq, Real.cosh_eq]
  generalize Real.exp (u * (1 / 2)) = p at *
  generalize Real.exp (-(u * (1 / 2))) = q at *
  have e : (1 : ℝ) + q * q ≠ 0 := by positivity
  have e' : p + q ≠ 0 := by positivity
  field_simp
  linear_combination (-2 * q) * h2

/-- Half of an extended real and its sigmoid: `1 - tanh (u / 2) = 2 · s` and `1 - σ u = s` for one real number `s`. -/
theorem half_tanh (u : EReal) : ∃ s : ℝ, 1 - Ideal.tanh (u * ((1 / 2 : ℝ) : EReal)) = ((2 * s : ℝ) : EReal)
    ∧ 1 - Ideal.logistic u = (s : EReal) := by
  induction u with
  | bot =>
    refine ⟨1, ?_, ?_⟩
    · rw [EReal.bot_mul_coe_of_pos (by norm_num), Ideal.tanh_bot]
      show ((1 : ℝ) : EReal) - ((-1 : ℝ) : EReal) = _
      rw [← EReal.coe_sub]; norm_num
    · have e : Ideal.logistic ⊥ = 0 := by
        rw [Ideal.logistic, EReal.neg_bot, Ideal.exp_top, EReal.add_top_of_ne_bot (by decide), Ideal.div, if_neg (by decide), EReal.inv_top, mul_zero]
      rw [e, sub_zero]; rfl
  | top =>
    refine ⟨0, ?_, ?_⟩
    · rw [EReal.top_mul_coe_of_pos (by norm_num), Ideal.tanh_top]
      show ((1 : ℝ) : EReal) - ((1 : ℝ) : EReal) = _
      rw [← EReal.coe_sub]; norm_num
    · have e : Ideal.logistic ⊤ = 1 := by
        rw [Ideal.logistic, EReal.neg_top, Ideal.exp_bot, add_zero, Ideal.div, if_neg one_ne_zero, inv_one, mul_one]
      rw [e]
      show ((1 : ℝ) : EReal) - ((1 : ℝ) : EReal) = _
      rw [← EReal.coe_sub]; norm_num
  | coe r =>
    refine ⟨1 - (1 + Real.exp (-r))⁻¹, ?_, ?_⟩
    · rw [← EReal.coe_mul, Ideal.tanh_coe, ← real_one_sub_tanh]; rfl
    · have e : (1 : EReal) + Ideal.exp (-(r : EReal)) = ((1 + Real.exp (-r) : ℝ) : EReal) := rfl
      have hne : (1 + Real.exp (-r) : ℝ) ≠ 0 := by have := Real.exp_pos (-r); positivity
      rw [Ideal.logistic, e, Ideal.div, if_neg (by exact_mod_cast hne), one_mul, ← EReal.coe_inv]; rfl

/-- The larger of two real numbers, as an extended real. -/
theorem coe_max (a b : ℝ) : ((max a b : ℝ) : EReal) = max (a : EReal) b := EReal.coe_strictMono.monotone.map_max

/-- The kernel's gate is twice the cell, and the cell is a real number and not negative. -/
theorem gate2_eq (z h : EReal) :
    ∃ r : ℝ, 0 ≤ r ∧ cell z h = (r : EReal) ∧ gate2 (z * ((1 / 2 : ℝ) : EReal)) h = ((2 * r : ℝ) : EReal) := by
  obtain ⟨s, h2, h1⟩ := half_tanh z
  obtain ⟨t, ht⟩ := tanh_isReal h
  refine ⟨max (s * t) 0, le_max_right _ _, ?_, ?_⟩
  · rw [cell, h1, ht, ← EReal.coe_mul]; exact (coe_max _ _).symm
  · rw [gate2, h2, ht, ← EReal.coe_mul, mul_max_of_nonneg _ _ (by norm_num : (0 : ℝ) ≤ 2), mul_zero, mul_assoc]
    exact (coe_max _ _).symm

/-! ## Moving the scales through the sums -/

/-- A nonnegative real number distributes over a sum of two extended reals. -/
theorem coe_mul_add {c : ℝ} (hc : 0 ≤ c) (a b : EReal) : (c : EReal) * (a + b) = c * a + c * b :=
  EReal.left_distrib_of_nonneg_of_ne_top (by exact_mod_cast hc) (EReal.coe_ne_top c) a b

/-- The same with the real number on the right. -/
theorem add_mul_coe {c : ℝ} (hc : 0 ≤ c) (a b : EReal) : (a + b) * (c : EReal) = a * c + b * c := by
  rw [mul_comm, coe_mul_add hc, mul_comm a, mul_comm b]

/-- A nonnegative real number distributes over a finite sum of extended reals. -/
theorem sum_mul_coe {n : ℕ} {c : ℝ} (hc : 0 ≤ c) (f : Fin n → EReal) : (∑ i, f i) * (c : EReal) = ∑ i, f i * c :=
  map_sum (⟨⟨fun a => a * (c : EReal), zero_mul _⟩, add_mul_coe hc⟩ : EReal →+ EReal) f Finset.univ

/-- The two sums of a linear layer, when every term of the one sum is the two terms' sum. -/
theorem sum_add_eq {n : ℕ} (f g k : Fin n → EReal) (h : ∀ i, f i = g i + k i) : ∑ i, f i = ∑ i, g i + ∑ i, k i := by
  rw [← Finset.sum_add_distrib]; exact Finset.sum_congr rfl fun i _ => h i

/-- A linear layer over real inputs and real weights, from the sum of the two weight matrices. -/
theorem lin2_of_real {n k : ℕ} (u : Fin n → EReal) (w w' : Fin n → Fin k → EReal) (b : Fin k → EReal) (j : Fin k)
    (hu : ∀ i, IsReal (u i)) (hw : ∀ i, IsReal (w i j)) (hw' : ∀ i, IsReal (w' i j)) :
    ∑ i, u i * (w i j + w' i j) + b j = lin2 u w w' b j := by
  rw [lin2]
  congr 1
  refine sum_add_eq _ _ _ fun i => ?_
  obtain ⟨a, ha⟩ := hu i; obtain ⟨c, hc⟩ := hw i; obtain ⟨d, hd⟩ := hw' i
  rw [ha, hc, hd]
  norm_cast
  ring

/-- A linear layer over inputs that are real and not negative, from the sum of the two weight matrices, whatever the
weights. -/
theorem lin2_of_nonneg {n k : ℕ} (u : Fin n → EReal) (w w' : Fin n → Fin k → EReal) (b : Fin k → EReal) (j : Fin k)
    (hu : ∀ i, ∃ r : ℝ, 0 ≤ r ∧ u i = r) :
    ∑ i, u i * (w i j + w' i j) + b j = lin2 u w w' b j := by
  rw [lin2]
  congr 1
  refine sum_add_eq _ _ _ fun i => ?_
  obtain ⟨r, hr, e⟩ := hu i
  rw [e, coe_mul_add hr]

/-- Halving the weights and the bias halves a linear layer. -/
theorem half_lin {n : ℕ} (u w : Fin n → EReal) (b : EReal) :
    ∑ i, u i * (w i * ((1 / 2 : ℝ) : EReal)) + b * ((1 / 2 : ℝ) : EReal) = (∑ i, u i * w i + b) * ((1 / 2 : ℝ) : EReal) := by
  rw [add_mul_coe (by norm_num), sum_mul_coe (by norm_num)]
  congr 1
  exact Finset.sum_congr rfl fun i _ => (mul_assoc _ _ _).symm

/-- A doubled input against a weight scaled by `c`: the input against the weight scaled by `2 · c`. -/
theorem double_mul (r c : ℝ) (w : EReal) : ((2 * r : ℝ) : EReal) * (w * (c : EReal)) = (r : EReal) * (w * ((2 * c : ℝ) : EReal)) := by
  rw [mul_comm w, mul_comm w, ← mul_assoc, ← mul_assoc, ← EReal.coe_mul, ← EReal.coe_mul]
  congr 2
  ring

/-! ## The kernel's layers -/

/-- The kernel's first layer is twice the reference's, over real inputs and real weights. -/
theorem first_layer {n k : ℕ} (u : Fin n → EReal) (z z' h h' : Fin n → Fin k → EReal) (bz bh : Fin k → EReal) (j : Fin k)
    (hu : ∀ i, IsReal (u i)) (hz : ∀ i, IsReal (z i j)) (hz' : ∀ i, IsReal (z' i j)) (hh : ∀ i, IsReal (h i j))
    (hh' : ∀ i, IsReal (h' i j)) :
    ∃ r : ℝ, 0 ≤ r ∧ layer u z z' h h' bz bh j = (r : EReal)
      ∧ gate2 (∑ i, u i * ((z i j + z' i j) * ((1 / 2 : ℝ) : EReal)) + bz j * ((1 / 2 : ℝ) : EReal))
          (∑ i, u i * (h i j + h' i j) + bh j) = ((2 * r : ℝ) : EReal) := by
  rw [half_lin, lin2_of_real u z z' bz j hu hz hz', lin2_of_real u h h' bh j hu hh hh']
  exact gate2_eq _ _

/-- The kernel's second layer, over doubled inputs, is twice the reference's. -/
theorem second_layer {n k : ℕ} (u v : Fin n → EReal) (z z' h h' : Fin n → Fin k → EReal) (bz bh : Fin k → EReal) (j : Fin k)
    (huv : ∀ i, ∃ r : ℝ, 0 ≤ r ∧ u i = (r : EReal) ∧ v i = ((2 * r : ℝ) : EReal)) :
    ∃ r : ℝ, 0 ≤ r ∧ layer u z z' h h' bz bh j = (r : EReal)
      ∧ gate2 (∑ i, v i * ((z i j + z' i j) * ((1 / 4 : ℝ) : EReal)) + bz j * ((1 / 2 : ℝ) : EReal))
          (∑ i, v i * ((h i j + h' i j) * ((1 / 2 : ℝ) : EReal)) + bh j) = ((2 * r : ℝ) : EReal) := by
  have hu : ∀ i, ∃ r : ℝ, 0 ≤ r ∧ u i = r := fun i => by obtain ⟨r, h0, h1, _⟩ := huv i; exact ⟨r, h0, h1⟩
  have hz4 : ∀ i, v i * ((z i j + z' i j) * ((1 / 4 : ℝ) : EReal)) = u i * ((z i j + z' i j) * ((1 / 2 : ℝ) : EReal)) := by
    intro i
    obtain ⟨r, _, h1, h2⟩ := huv i
    rw [h1, h2, double_mul]; norm_num
  have hh2 : ∀ i, v i * ((h i j + h' i j) * ((1 / 2 : ℝ) : EReal)) = u i * (h i j + h' i j) := by
    intro i
    obtain ⟨r, _, h1, h2⟩ := huv i
    rw [h1, h2, double_mul]; norm_num
  simp only [hz4, hh2]
  rw [half_lin, lin2_of_nonneg u z z' bz j hu, lin2_of_nonneg u h h' bh j hu]
  exact gate2_eq _ _

/-- The kernel's dense layer, over doubled inputs and halved weights, is the reference's. -/
theorem third_layer {n k : ℕ} (u v : Fin n → EReal) (w : Fin n → Fin k → EReal) (b : Fin k → EReal) (j : Fin k)
    (huv : ∀ i, ∃ r : ℝ, 0 ≤ r ∧ u i = (r : EReal) ∧ v i = ((2 * r : ℝ) : EReal)) :
    ∑ i, v i * (w i j * ((1 / 2 : ℝ) : EReal)) + b j = dense u w b j := by
  rw [dense]
  congr 1
  refine Finset.sum_congr rfl fun i _ => ?_
  obtain ⟨r, _, h1, h2⟩ := huv i
  rw [h1, h2, double_mul]; norm_num

end Cert.Row

end
-- ==== Proof.Finite.lean ====
/- What the precondition says: the features, and the first layer's weights that meet them, are real numbers. -/
module

public import proofs.«01_k».proof.Pre_finite
public import proofs.«01_k».proof.Proof.Gate

@[expose] public section

set_option maxRecDepth 16384

noncomputable section

namespace Cert.Finite

open Idealize.ShloMosaic Cert.Row Cert.Pre_finite

/-- The side conditions the precondition's operations take. -/
instance facts : Cert.Pre_finite.Facts := by constructor <;> decide

/-- A value whose absolute value is below infinity is real. -/
theorem isReal_of_abs {a : EReal} (h : Ideal.cmp .olt (max a (-a)) (Ideal.ofBits .f32 0x7F800000#32) = 1#1) : IsReal a := by
  have ht : Ideal.ofBits .f32 0x7F800000#32 = ⊤ := by simp [Ideal.ofBits, Ideal.ieee]
  rw [ht] at h
  induction a with
  | bot => simp [Ideal.cmp] at h
  | top => simp [Ideal.cmp] at h
  | coe r => exact ⟨r, rfl⟩

/-- The rows of a gate that meet the features are real where the slice of them is. -/
theorem gate_isReal (w : Vec Ideal S2x192x64 .f32)
    (e : cmpf .olt (Host.absf ((extractStridedSlice S2x128x64 ![0, 0, 0] · facts.slices_S2x192x64_S2x128x64_0_0_0) w))
      (broadcastInDim S2x128x64 ![] facts.bcast_S_S2x128x64 (constant (F := Ideal) S_ .f32 0x7F800000#32)) = fun _ => 1#1)
    (g : Fin 2) (i : Fin 128) (j : Fin 64) : IsReal (gateW (n := 128) (by decide) w g i j) := by
  refine isReal_of_abs (Eq.trans ?_ (congrFun e (ix3 g i j)))
  symm
  pointwise []
  rfl

/-- The features are real where their absolute values are below infinity. -/
theorem feature_isReal (x : Vec Ideal S10000x128 .f32)
    (e : cmpf .olt (Host.absf x) (broadcastInDim S10000x128 ![] facts.bcast_S_S10000x128 (constant (F := Ideal) S_ .f32 0x7F800000#32))
      = fun _ => 1#1) (i : S10000x128.Idx) : IsReal (x i) :=
  isReal_of_abs (congrFun e i)

end Cert.Finite

end
-- ==== Proof.RefValue.lean ====
/- The reference's result over the extended reals: the network's value on every row of `x`. The state it starts from is
zero, so the state's columns add nothing to either gate, and the reset gate is never seen. -/
module

public import proofs.«01_k».proof.Proof.Gate
public import proofs.«01_k».proof.Proof.Gen.ReferenceIdeal.Read

@[expose] public section

set_option maxRecDepth 16384

noncomputable section

namespace Cert.ReferenceIdeal.Network

open Cert.ReferenceIdeal Cert.ReferenceIdeal.Gen Cert.ReferenceIdeal.Read Cert.Row
open Idealize.ShloMosaic
open scoped BigOperators

variable (x : Vec Ideal S10000x128 .f32) (z r h : Vec Ideal S2x192x64 .f32) (bz br bh : Vec Ideal S64 .f32)

/-! ## The first layer -/

/-- The update gate's linear layer. -/
theorem lin_z (R : Fin 10000) (j : Fin 64) : val_main_v11 (F := Ideal) x z bz (ix2 R j)
    = lin2 (fun k => x (ix2 R k)) (gateW (n := 128) (by decide) z 0) (gateW (n := 128) (by decide) z 1) (fun j => bz (ix1 j)) j := by
  pointwise [val_main_v11, val_main_v10, val_main_v9, val_main_v8, val_main_v7, val_main_v6, val_main_v5, val_main_v4,
    val_main_v3, val_main_v2, val_main_v1, val_main_v0, val_main_cst]
  simp only [zero_mul, Finset.sum_const_zero, add_zero]
  rfl

/-- The candidate's linear layer. -/
theorem lin_h (R : Fin 10000) (j : Fin 64) : val_main_v45 (F := Ideal) x r br h bh (ix2 R j)
    = lin2 (fun k => x (ix2 R k)) (gateW (n := 128) (by decide) h 0) (gateW (n := 128) (by decide) h 1) (fun j => bh (ix1 j)) j := by
  pointwise [val_main_v45, val_main_v44, val_main_v43, val_main_v42, val_main_v41, val_main_v40, val_main_v39, val_main_v38,
    val_main_v37, val_main_v36, val_main_v35, val_main_v34, val_main_v0, val_main_cst]
  simp only [zero_mul, Finset.sum_const_zero, add_zero]
  rfl

/-- The first layer after `relu`. -/
theorem first (R : Fin 10000) (j : Fin 64) : val_main_v52 (F := Ideal) x z bz r br h bh (ix2 R j)
    = layer (fun k => x (ix2 R k)) (gateW (n := 128) (by decide) z 0) (gateW (n := 128) (by decide) z 1)
        (gateW (n := 128) (by decide) h 0) (gateW (n := 128) (by decide) h 1) (fun j => bz (ix1 j)) (fun j => bh (ix1 j)) j := by
  rw [layer, ← lin_z, ← lin_h x r h br bh]
  pointwise [val_main_v52, val_main_v51, val_main_v50, val_main_v49, val_main_v48, val_main_v47, val_main_v46,
    val_main_v17, val_main_v16, val_main_v15, val_main_v14, val_main_v13, val_main_v12, val_main_v0, val_main_cst,
    val_main_cst_0, val_main_cst_1, val_main_cst_4, val_main_call0_v0, val_main_call0_cst]
  try simp only [mul_zero, zero_add]
  rfl

/-! ## The second layer -/

variable (z' r' h' : Vec Ideal S2x96x32 .f32) (bz' br' bh' : Vec Ideal S32 .f32)

/-- The update gate's linear layer. -/
theorem lin_z' (R : Fin 10000) (j : Fin 32) : val_main_v64 (F := Ideal) x z bz r br h bh z' bz' (ix2 R j)
    = lin2 (fun k => val_main_v52 (F := Ideal) x z bz r br h bh (ix2 R k)) (gateW (n := 64) (by decide) z' 0)
        (gateW (n := 64) (by decide) z' 1) (fun j => bz' (ix1 j)) j := by
  pointwise [val_main_v64, val_main_v63, val_main_v62, val_main_v61, val_main_v60, val_main_v59, val_main_v58, val_main_v57,
    val_main_v56, val_main_v55, val_main_v54, val_main_v53, val_main_cst_5]
  simp only [zero_mul, Finset.sum_const_zero, add_zero]
  rfl

/-- The candidate's linear layer. -/
theorem lin_h' (R : Fin 10000) (j : Fin 32) : val_main_v98 (F := Ideal) x z bz r br h bh r' br' h' bh' (ix2 R j)
    = lin2 (fun k => val_main_v52 (F := Ideal) x z bz r br h bh (ix2 R k)) (gateW (n := 64) (by decide) h' 0)
        (gateW (n := 64) (by decide) h' 1) (fun j => bh' (ix1 j)) j := by
  pointwise [val_main_v98, val_main_v97, val_main_v96, val_main_v95, val_main_v94, val_main_v93, val_main_v92, val_main_v91,
    val_main_v90, val_main_v89, val_main_v88, val_main_v87, val_main_v53, val_main_cst_5]
  simp only [zero_mul, Finset.sum_const_zero, add_zero]
  rfl

/-- The second layer after `relu`, from the first. -/
theorem second (R : Fin 10000) (j : Fin 32) : val_main_v105 (F := Ideal) x z bz r br h bh z' bz' r' br' h' bh' (ix2 R j)
    = layer (fun k => val_main_v52 (F := Ideal) x z bz r br h bh (ix2 R k)) (gateW (n := 64) (by decide) z' 0)
        (gateW (n := 64) (by decide) z' 1) (gateW (n := 64) (by decide) h' 0) (gateW (n := 64) (by decide) h' 1)
        (fun j => bz' (ix1 j)) (fun j => bh' (ix1 j)) j := by
  rw [layer, ← lin_z', ← lin_h' x z r h bz br bh r' h' br' bh']
  pointwise [val_main_v105, val_main_v104, val_main_v103, val_main_v102, val_main_v101, val_main_v100, val_main_v99,
    val_main_v70, val_main_v69, val_main_v68, val_main_v67, val_main_v66, val_main_v65, val_main_v53, val_main_cst_5,
    val_main_cst_6, val_main_cst_7, val_main_cst_10, val_main_call1_v0, val_main_call1_cst]
  try simp only [mul_zero, zero_add]
  rfl

/-! ## The result -/

variable (l : Vec Ideal S32x16 .f32) (c : Vec Ideal S16 .f32) (l' : Vec Ideal S16x1 .f32) (c' : Vec Ideal S1 .f32)

/-- The two dense layers, from the second recurrent layer. -/
theorem third (R : Fin 10000) :
    val_main_v114 (F := Ideal) x z bz r br h bh z' bz' r' br' h' bh' l c l' c' (ix2 R 0)
      = dense (fun k => max (dense (fun q => val_main_v105 (F := Ideal) x z bz r br h bh z' bz' r' br' h' bh' (ix2 R q)) (mat l)
          (fun j => c (ix1 j)) k) 0) (mat l') (fun j => c' (ix1 j)) 0 := by
  pointwise [val_main_v114, val_main_v113, val_main_v112, val_main_v111, val_main_v110, val_main_v109, val_main_v108,
    val_main_v107, val_main_v106, val_main_call2_v0, val_main_call2_cst]
  rfl

/-- The reference's result is the network's value on every row. -/
theorem result_eq : val_main_v114 (F := Ideal) x z bz r br h bh z' bz' r' br' h' bh' l c l' c'
    = network x z h bz bh z' h' bz' bh' l c l' c' := by
  funext i
  obtain ⟨R, rfl⟩ : ∃ R : Fin 10000, i = ix2 R 0 := ⟨i 0, by
    funext a; fin_cases a
    · rfl
    · exact Fin.ext (by show (i 1).val = 0; have : (i 1).val < 1 := (i 1).isLt; omega)⟩
  rw [third]
  simp only [second, first]
  rfl

end Cert.ReferenceIdeal.Network

end
-- ==== Proof.BlockValue.lean ====
/- The block of the result one grid point writes, over the extended reals: each of its rows is the network's value on the
same row of the point's block of `x`. -/
module

public import proofs.«01_k».proof.Proof.Blocks
public import proofs.«01_k».proof.Proof.Gate

@[expose] public section

set_option maxRecDepth 16384

noncomputable section

namespace Cert.KernelIdeal.BlockValue

open Cert.KernelIdeal Cert.KernelIdeal.Gen Cert.KernelIdeal.Run Cert.Row
open Idealize.ShloMosaic
open scoped BigOperators

/-! ## Constants -/

/-- The constant one half. -/
theorem half_val : Ideal.ofBits .f32 0x3F000000#32 = ((1 / 2 : ℝ) : EReal) := by
  simp [Ideal.ofBits, Ideal.ieee, ← EReal.coe_mul]; norm_num

/-- The constant one quarter. -/
theorem quarter_val : Ideal.ofBits .f32 0x3E800000#32 = ((1 / 4 : ℝ) : EReal) := by
  simp [Ideal.ofBits, Ideal.ieee, ← EReal.coe_mul]; norm_num

/-! ## Choosing a side

A choice between two pieces, whichever way its test is decided. -/

/-- Where the test holds the choice is its first side. -/
theorem take_left {α : Type} {a b : ℕ} {d : Decidable (a < b)} {t : a < b → α} {e : ¬a < b → α} (hc : a < b) :
    @dite α (a < b) d t e = t hc := dif_pos hc

/-- Where the test fails the choice is its second side. -/
theorem take_right {α : Type} {a b : ℕ} {d : Decidable (a < b)} {t : a < b → α} {e : ¬a < b → α} (hc : ¬a < b) :
    @dite α (a < b) d t e = e hc := dif_neg hc

/-! ## The prepared weights and biases, entry by entry

The first layer's matrix has the update gate's columns and then the candidate's. The other three are block diagonal: half
`q` of the rows meets half `p` of the columns only where `q = p`. -/

/-- The places of a row of 64 features in a row of 128. -/
abbrev h64 : Fin 2 → Fin 64 → Fin 128 := half rfl
/-- The places of a row of 32 features in a row of 64. -/
abbrev h32 : Fin 2 → Fin 32 → Fin 64 := half rfl
/-- The places of a row of 16 features in a row of 32. -/
abbrev h16 : Fin 2 → Fin 16 → Fin 32 := half rfl
/-- The places of a half's rows in a block. -/
abbrev h1000 : Fin 2 → Fin 1000 → Fin 2000 := half rfl

variable (z h : Vec Ideal S2x192x64 .f32) (z' h' : Vec Ideal S2x96x32 .f32)

/-- The update gate's columns of the first layer: the gate's two matrices added and halved. -/
theorem w1_z (k : Fin 128) (j : Fin 64) : prepW1 (F := Ideal) z h (ix2 k (h64 0 j))
    = (gateW (n := 128) (by decide) z 0 k j + gateW (n := 128) (by decide) z 1 k j) * ((1 / 2 : ℝ) : EReal) := by
  rw [← half_val]
  unfold prepW1
  have hj := j.isLt
  pointwise [k0_pay4]
  simp (disch := omega) only [half_zero_val, half_one_val, take_left, take_right,
    Nat.add_sub_cancel_left]
  try rfl

/-- The candidate's columns of the first layer: its two matrices added. -/
theorem w1_h (k : Fin 128) (j : Fin 64) : prepW1 (F := Ideal) z h (ix2 k (h64 1 j))
    = gateW (n := 128) (by decide) h 0 k j + gateW (n := 128) (by decide) h 1 k j := by
  unfold prepW1
  have hj := j.isLt
  pointwise [k0_pay4]
  simp (disch := omega) only [half_zero_val, half_one_val, take_left, take_right,
    Nat.add_sub_cancel_left]
  try rfl

/-- The update gate's bias of the first layer, halved. -/
theorem b1_z (b b' : Vec Ideal S1x64 .f32) (j : Fin 64) :
    k0_pay5 (F := Ideal) b b' (ix2 0 (h64 0 j)) = b (ix2 0 j) * ((1 / 2 : ℝ) : EReal) := by
  rw [← half_val]
  have hj := j.isLt
  pointwise [k0_pay5]
  simp (disch := omega) only [half_zero_val, half_one_val, take_left, take_right,
    Nat.add_sub_cancel_left]
  try rfl

/-- The candidate's bias of the first layer. -/
theorem b1_h (b b' : Vec Ideal S1x64 .f32) (j : Fin 64) :
    k0_pay5 (F := Ideal) b b' (ix2 0 (h64 1 j)) = b' (ix2 0 j) := by
  have hj := j.isLt
  pointwise [k0_pay5]
  simp (disch := omega) only [half_zero_val, half_one_val, take_left, take_right,
    Nat.add_sub_cancel_left]
  try rfl

/-- The update gate's columns of the second layer: the gate's two matrices added and quartered. -/
theorem w2_z (q p : Fin 2) (k : Fin 64) (j : Fin 32) : prepW2 (F := Ideal) z' h' (ix2 (h64 q k) (h64 0 (h32 p j)))
    = if q = p then (gateW (n := 64) (by decide) z' 0 k j + gateW (n := 64) (by decide) z' 1 k j) * ((1 / 4 : ℝ) : EReal) else 0 := by
  rw [← quarter_val]
  unfold prepW2
  have hj := j.isLt
  have hk := k.isLt
  fin_cases q <;> fin_cases p <;> pointwise [k0_pay7, k0_pay6]
  all_goals simp (disch := omega) only [half_zero_val, half_one_val, take_left, take_right,
    Nat.add_sub_cancel_left]
  all_goals try rfl

/-- The candidate's columns of the second layer: its two matrices added and halved. -/
theorem w2_h (q p : Fin 2) (k : Fin 64) (j : Fin 32) : prepW2 (F := Ideal) z' h' (ix2 (h64 q k) (h64 1 (h32 p j)))
    = if q = p then (gateW (n := 64) (by decide) h' 0 k j + gateW (n := 64) (by decide) h' 1 k j) * ((1 / 2 : ℝ) : EReal) else 0 := by
  rw [← half_val]
  unfold prepW2
  have hj := j.isLt
  have hk := k.isLt
  fin_cases q <;> fin_cases p <;> pointwise [k0_pay7, k0_pay6]
  all_goals simp (disch := omega) only [half_zero_val, half_one_val, take_left, take_right,
    Nat.add_sub_cancel_left, Nat.sub_sub, Nat.add_sub_add_left]
  all_goals try rfl

/-- The update gate's bias of the second layer, halved, once for each half. -/
theorem b2_z (b b' : Vec Ideal S1x32 .f32) (p : Fin 2) (j : Fin 32) :
    k0_pay8 (F := Ideal) b b' b' (ix2 0 (h64 0 (h32 p j))) = b (ix2 0 j) * ((1 / 2 : ℝ) : EReal) := by
  rw [← half_val]
  have hj := j.isLt
  fin_cases p <;> pointwise [k0_pay8]
  all_goals simp (disch := omega) only [half_zero_val, half_one_val, take_left, take_right,
    Nat.add_sub_cancel_left]
  all_goals try rfl

/-- The candidate's bias of the second layer, once for each half. -/
theorem b2_h (b b' : Vec Ideal S1x32 .f32) (p : Fin 2) (j : Fin 32) :
    k0_pay8 (F := Ideal) b b' b' (ix2 0 (h64 1 (h32 p j))) = b' (ix2 0 j) := by
  have hj := j.isLt
  fin_cases p <;> pointwise [k0_pay8]
  all_goals simp (disch := omega) only [half_zero_val, half_one_val, take_left, take_right,
    Nat.add_sub_cancel_left, Nat.sub_sub, Nat.add_sub_add_left]
  all_goals try rfl

/-- The first dense layer's weights, halved. -/
theorem w3_apply (w : Vec Ideal S32x16 .f32) (q p : Fin 2) (k : Fin 32) (j : Fin 16) :
    k0_pay9 (F := Ideal) w (ix2 (h32 q k) (h16 p j)) = if q = p then mat w k j * ((1 / 2 : ℝ) : EReal) else 0 := by
  rw [← half_val]
  have hj := j.isLt
  have hk := k.isLt
  fin_cases q <;> fin_cases p <;> pointwise [k0_pay9]
  all_goals simp (disch := omega) only [half_zero_val, half_one_val, take_left, take_right,
    Nat.add_sub_cancel_left]
  all_goals try rfl

/-- The first dense layer's bias, once for each half. -/
theorem b3_apply (b : Vec Ideal S1x16 .f32) (b' : Vec Ideal S1x1 .f32) (p : Fin 2) (j : Fin 16) :
    bias3 (k0_pay10 (F := Ideal) b b') (ix2 0 (h16 p j)) = b (ix2 0 j) := by
  show k0_pay10 (F := Ideal) b b' (ix2 0 ⟨(h16 p j).val, _⟩) = _
  have hj := j.isLt
  fin_cases p <;> pointwise [k0_pay10]
  all_goals simp (disch := omega) only [half_zero_val, half_one_val, take_left, take_right,
    Nat.add_sub_cancel_left]
  all_goals try rfl

/-- The last layer's weights. -/
theorem w4_apply (w : Vec Ideal S16x1 .f32) (q p : Fin 2) (k : Fin 16) :
    k0_pay11 (F := Ideal) w w (ix2 (h16 q k) p) = if q = p then mat w k 0 else 0 := by
  have hk := k.isLt
  fin_cases q <;> fin_cases p <;> pointwise [k0_pay11]
  all_goals simp (disch := omega) only [half_zero_val, half_one_val, take_left, take_right,
    Nat.add_sub_cancel_left]
  all_goals try rfl

/-- The last layer's bias. -/
theorem b4_apply (b : Vec Ideal S1x16 .f32) (b' : Vec Ideal S1x1 .f32) :
    bias4 (k0_pay10 (F := Ideal) b b') (ix2 0 0) = b' (ix2 0 0) := by
  show k0_pay10 (F := Ideal) b b' (ix2 0 ⟨32, _⟩) = _
  pointwise [k0_pay10]
  try rfl

/-! ## The layers of the packed rows -/

/-- The first layer of row `R` of a block, as the kernel computes it. -/
def first (x : Vec Ideal S2000x128 .f32) (w1 : Vec Ideal S128x128 .bf16) (b1 : Vec Ideal S1x128 .f32) (R : Fin 2000) (j : Fin 64) :
    EReal :=
  gate2 (∑ k, x (ix2 R k) * w1 (ix2 k (h64 0 j)) + b1 (ix2 0 (h64 0 j)))
    (∑ k, x (ix2 R k) * w1 (ix2 k (h64 1 j)) + b1 (ix2 0 (h64 1 j)))

/-- The second layer at a packed row: rows `r` of the two halves side by side. -/
theorem pay12_apply (x : Vec Ideal S2000x128 .f32) (w1 w2 : Vec Ideal S128x128 .bf16) (b1 b2 : Vec Ideal S1x128 .f32)
    (r : Fin 1000) (c : Fin 64) : k0_pay12 (F := Ideal) x w1 b1 w2 b2 (ix2 r c)
      = gate2 (∑ k, first x w1 b1 (h1000 0 r) k * w2 (ix2 (h64 0 k) (h64 0 c))
            + ∑ k, first x w1 b1 (h1000 1 r) k * w2 (ix2 (h64 1 k) (h64 0 c)) + b2 (ix2 0 (h64 0 c)))
          (∑ k, first x w1 b1 (h1000 0 r) k * w2 (ix2 (h64 0 k) (h64 1 c))
            + ∑ k, first x w1 b1 (h1000 1 r) k * w2 (ix2 (h64 1 k) (h64 1 c)) + b2 (ix2 0 (h64 1 c))) := by
  pointwise [k0_pay12]
  rfl

/-- The packed result at row `r` and half `p`. -/
theorem pay1_apply (g : Vec Ideal S1000x64 .bf16) (w3 : Vec Ideal S64x32 .bf16) (w4 : Vec Ideal S32x2 .bf16)
    (b3 : Vec Ideal S1x32 .f32) (b4 : Vec Ideal S1x1 .f32) (r : Fin 1000) (p : Fin 2) :
    k0_pay1 (F := Ideal) g w3 (constant S1000x32 .f32 0x00000000#32) b3 w4 b4 (ix2 r p)
      = ∑ k, max (∑ c, g (ix2 r c) * w3 (ix2 c k) + b3 (ix2 0 k)) 0 * w4 (ix2 k p) + b4 (ix2 0 0) := by
  pointwise [k0_pay1]

/-- The first half of a block of the result is column 0 of the packed result. -/
theorem outBlk_fst (x : Vec Ideal S2000x128 .f32) (w1 w2 : Vec Ideal S128x128 .bf16) (w3 : Vec Ideal S64x32 .bf16)
    (w4 : Vec Ideal S32x2 .bf16) (b1 b2 b3 : Vec Ideal S1x128 .f32) (r : Fin 1000) :
    outBlk x w1 w2 w3 w4 b1 b2 b3 (ix2 (h1000 0 r) 0)
      = k0_pay1 (k0_pay12 x w1 b1 w2 b2) w3 (constant S1000x32 .f32 0x00000000#32) (bias3 b3) w4 (bias4 b3) (ix2 r 0) := by
  have hr := r.isLt
  have hv : (h1000 0 r).val = r.val := half_zero_val _ r
  have e : ix2 (h1000 0 r) (0 : Fin 1)
      = (Rect.unit (s := S2000x1) ![0, 0] S1000x1.size inb_S2000x1_S1000x1_0_0).emb (ix2 r (0 : Fin 1)) := by
    funext a; fin_cases a <;> apply Fin.ext <;> simp [ix2, half_zero_val]
  have hn : ix2 (h1000 0 r) (0 : Fin 1) ∉ (Rect.unit (s := S2000x1) ![1000, 0] S1000x1.size inb_S2000x1_S1000x1_1000_0).set := by
    rw [Rect.mem_set_unit]
    intro hm
    have h0 : 1000 ≤ (h1000 0 r).val := (hm 0).1
    omega
  have s1 : outBlk x w1 w2 w3 w4 b1 b2 b3 (ix2 (h1000 0 r) 0) = _ := View.canon_cons_of_not_mem _ _ hn
  rw [s1, e]
  refine (View.canon_cons_emb _ _ _ _).trans ?_
  generalize k0_pay12 x w1 b1 w2 b2 = g
  unfold k0_pay2
  generalize k0_pay1 g w3 (constant S1000x32 .f32 0x00000000#32) (bias3 b3) w4 (bias4 b3) = f
  pointwise []
  try rfl

/-- The second half of a block of the result is column 1 of the packed result. -/
theorem outBlk_snd (x : Vec Ideal S2000x128 .f32) (w1 w2 : Vec Ideal S128x128 .bf16) (w3 : Vec Ideal S64x32 .bf16)
    (w4 : Vec Ideal S32x2 .bf16) (b1 b2 b3 : Vec Ideal S1x128 .f32) (r : Fin 1000) :
    outBlk x w1 w2 w3 w4 b1 b2 b3 (ix2 (h1000 1 r) 0)
      = k0_pay1 (k0_pay12 x w1 b1 w2 b2) w3 (constant S1000x32 .f32 0x00000000#32) (bias3 b3) w4 (bias4 b3) (ix2 r 1) := by
  have e : ix2 (h1000 1 r) (0 : Fin 1)
      = (Rect.unit (s := S2000x1) ![1000, 0] S1000x1.size inb_S2000x1_S1000x1_1000_0).emb (ix2 r (0 : Fin 1)) := by
    funext a; fin_cases a <;> apply Fin.ext <;> simp [ix2, half_one_val]
  unfold outBlk
  rw [e]
  refine (View.canon_cons_emb _ _ _ _).trans ?_
  generalize k0_pay12 x w1 b1 w2 b2 = g
  unfold k0_pay3
  generalize k0_pay1 g w3 (constant S1000x32 .f32 0x00000000#32) (bias3 b3) w4 (bias4 b3) = f
  pointwise []
  try rfl

/-- Half `p` of a block of the result is column `p` of the packed result. -/
theorem outBlk_half (x : Vec Ideal S2000x128 .f32) (w1 w2 : Vec Ideal S128x128 .bf16) (w3 : Vec Ideal S64x32 .bf16)
    (w4 : Vec Ideal S32x2 .bf16) (b1 b2 b3 : Vec Ideal S1x128 .f32) (r : Fin 1000) (p : Fin 2) :
    outBlk x w1 w2 w3 w4 b1 b2 b3 (ix2 (h1000 p r) 0)
      = k0_pay1 (k0_pay12 x w1 b1 w2 b2) w3 (constant S1000x32 .f32 0x00000000#32) (bias3 b3) w4 (bias4 b3) (ix2 r p) := by
  match p with
  | 0 => exact outBlk_fst x w1 w2 w3 w4 b1 b2 b3 r
  | 1 => exact outBlk_snd x w1 w2 w3 w4 b1 b2 b3 r

/-! ## A row of the block -/

variable (x : Vec Ideal S2000x128 .f32) (bz bh : Vec Ideal S1x64 .f32) (bz' bh' : Vec Ideal S1x32 .f32)
  (l : Vec Ideal S32x16 .f32) (c : Vec Ideal S1x16 .f32) (l' : Vec Ideal S16x1 .f32) (c' : Vec Ideal S1x1 .f32)

/-- A row of the block of `x`. -/
abbrev row (R : Fin 2000) : Fin 128 → EReal := fun i => x (ix2 R i)

/-- The first layer of the network on a row of the block. -/
abbrev layer1 (R : Fin 2000) : Fin 64 → EReal :=
  layer (row x R) (gateW (n := 128) (by decide) z 0) (gateW (n := 128) (by decide) z 1) (gateW (n := 128) (by decide) h 0)
    (gateW (n := 128) (by decide) h 1) (fun j => bz (ix2 0 j)) (fun j => bh (ix2 0 j))

/-- The second layer of the network on a row of the block. -/
abbrev layer2 (R : Fin 2000) : Fin 32 → EReal :=
  layer (layer1 z h x bz bh R) (gateW (n := 64) (by decide) z' 0) (gateW (n := 64) (by decide) z' 1)
    (gateW (n := 64) (by decide) h' 0) (gateW (n := 64) (by decide) h' 1) (fun j => bz' (ix2 0 j)) (fun j => bh' (ix2 0 j))

/-- The kernel's first layer is twice the network's. -/
theorem first_row (R : Fin 2000) (hx : ∀ i, IsReal (x (ix2 R i)))
    (hz : ∀ g i j, IsReal (gateW (n := 128) (by decide) z g i j)) (hh : ∀ g i j, IsReal (gateW (n := 128) (by decide) h g i j))
    (j : Fin 64) : ∃ r : ℝ, 0 ≤ r ∧ layer1 z h x bz bh R j = (r : EReal)
      ∧ first x (prepW1 z h) (k0_pay5 bz bh) R j = ((2 * r : ℝ) : EReal) := by
  simp only [first, w1_z, w1_h, b1_z, b1_h]
  exact first_layer (row x R) _ _ _ _ (fun j => bz (ix2 0 j)) (fun j => bh (ix2 0 j)) j hx
    (fun i => hz 0 i j) (fun i => hz 1 i j) (fun i => hh 0 i j) (fun i => hh 1 i j)

/-- The kernel's second layer, at the packed row's half `p`, is twice the network's. -/
theorem second_row (p : Fin 2) (r : Fin 1000) (hx : ∀ i, IsReal (x (ix2 (h1000 p r) i)))
    (hz : ∀ g i j, IsReal (gateW (n := 128) (by decide) z g i j)) (hh : ∀ g i j, IsReal (gateW (n := 128) (by decide) h g i j))
    (j : Fin 32) : ∃ s : ℝ, 0 ≤ s ∧ layer2 z h z' h' x bz bh bz' bh' (h1000 p r) j = (s : EReal)
      ∧ k0_pay12 x (prepW1 z h) (k0_pay5 bz bh) (prepW2 z' h') (k0_pay8 bz' bh' bh') (ix2 r (h32 p j)) = ((2 * s : ℝ) : EReal) := by
  have key := second_layer (layer1 z h x bz bh (h1000 p r)) (first x (prepW1 z h) (k0_pay5 bz bh) (h1000 p r))
    (gateW (n := 64) (by decide) z' 0) (gateW (n := 64) (by decide) z' 1)
    (gateW (n := 64) (by decide) h' 0) (gateW (n := 64) (by decide) h' 1) (fun j => bz' (ix2 0 j)) (fun j => bh' (ix2 0 j)) j
    (fun i => first_row z h x bz bh (h1000 p r) hx hz hh i)
  obtain ⟨s, h0, h1, h2⟩ := key
  refine ⟨s, h0, h1, ?_⟩
  rw [← h2, pay12_apply]
  simp only [w2_z, w2_h, b2_z, b2_h]
  fin_cases p <;> simp

/-- Each row of the block the kernel writes is the network's value on that row of `x`. -/
theorem outBlk_row (p : Fin 2) (r : Fin 1000) (hx : ∀ i, IsReal (x (ix2 (h1000 p r) i)))
    (hz : ∀ g i j, IsReal (gateW (n := 128) (by decide) z g i j)) (hh : ∀ g i j, IsReal (gateW (n := 128) (by decide) h g i j)) :
    outBlk x (prepW1 z h) (prepW2 z' h') (k0_pay9 l) (k0_pay11 l' l') (k0_pay5 bz bh) (k0_pay8 bz' bh' bh') (k0_pay10 c c')
        (ix2 (h1000 p r) 0)
      = rowValue (row x (h1000 p r)) z h (fun j => bz (ix2 0 j)) (fun j => bh (ix2 0 j)) z' h' (fun j => bz' (ix2 0 j))
          (fun j => bh' (ix2 0 j)) l (fun j => c (ix2 0 j)) l' (fun j => c' (ix2 0 j)) := by
  have inner : ∀ k : Fin 16, (∑ q, k0_pay12 x (prepW1 z h) (k0_pay5 bz bh) (prepW2 z' h') (k0_pay8 bz' bh' bh') (ix2 r q)
        * k0_pay9 (F := Ideal) l (ix2 q (h16 p k))) + c (ix2 0 k)
      = dense (layer2 z h z' h' x bz bh bz' bh' (h1000 p r)) (mat l) (fun j => c (ix2 0 j)) k := by
    intro k
    rw [sum_half_of_zero (n := 32) (N := 64) rfl p _ (fun q hq i => by rw [w3_apply, if_neg hq, mul_zero])]
    simp only [w3_apply, if_true]
    exact third_layer _ _ (mat l) (fun j => c (ix2 0 j)) k
      (fun i => second_row z h z' h' x bz bh bz' bh' p r hx hz hh i)
  rw [outBlk_half, pay1_apply, sum_half_of_zero (n := 16) (N := 32) rfl p _ (fun q hq i => by rw [w4_apply, if_neg hq, mul_zero])]
  simp only [w4_apply, if_true, b3_apply, b4_apply, inner]
  rfl

end Cert.KernelIdeal.BlockValue

end
-- ==== Proof.Output.lean ====
/- The array the kernel's run leaves: the network's value on every row of `x`, where `x` and the first layer's weights are
real. -/
module

public import proofs.«01_k».proof.Proof.Run
public import proofs.«01_k».proof.Proof.BlockValue
public import Idealize.ShloMosaic.Lib.Pipeline.ValueKit
public import Idealize.ShloMosaic.Lib.StableHlo.ReadAt

@[expose] public section

set_option maxRecDepth 16384

noncomputable section

namespace Cert.KernelIdeal.Output

open Cert.KernelIdeal Cert.KernelIdeal.Gen Cert.KernelIdeal.Run Cert.KernelIdeal.BlockValue Cert.Row
open Idealize.ShloMosaic Idealize.ShloMosaic.TcCoe

variable (m : (ℓ : Loc nD τ sig) → Buf (Elt Ideal) ℓ) (c : Dev nD)

/-! ## The launched arrays -/

/-- The features. -/
abbrev aX : Vec Ideal S10000x128 .f32 := m ((c : Thread nD τ).loc main_arg0)
/-- The first layer's update gate. -/
abbrev aZ : Vec Ideal S2x192x64 .f32 := m ((c : Thread nD τ).loc main_arg3)
/-- The first layer's candidate. -/
abbrev aH : Vec Ideal S2x192x64 .f32 := m ((c : Thread nD τ).loc main_arg7)
/-- The second layer's update gate. -/
abbrev aZ' : Vec Ideal S2x96x32 .f32 := m ((c : Thread nD τ).loc main_arg9)
/-- The second layer's candidate. -/
abbrev aH' : Vec Ideal S2x96x32 .f32 := m ((c : Thread nD τ).loc main_arg13)

/-- The network's value on every row, from the launched arrays. -/
def result : Vec Ideal S10000x1 .f32 :=
  network (aX m c) (aZ m c) (aH m c) (m ((c : Thread nD τ).loc main_arg4)) (m ((c : Thread nD τ).loc main_arg8))
    (aZ' m c) (aH' m c) (m ((c : Thread nD τ).loc main_arg10)) (m ((c : Thread nD τ).loc main_arg14))
    (m ((c : Thread nD τ).loc main_arg15)) (m ((c : Thread nD τ).loc main_arg16)) (m ((c : Thread nD τ).loc main_arg17))
    (m ((c : Thread nD τ).loc main_arg18))

/-! ## The windows' blocks -/

/-- Point `t` reads the `t`-th block of `x`. -/
theorem idx0 : ∀ t : Fin cfg0.N, win0_0.index t = ![t.val, 0] := (by decide +kernel : ∀ t : Fin grid0.N, _)
/-- Point `t` writes the `t`-th block of the result. -/
theorem idx13 : ∀ t : Fin cfg0.N, win0_13.index t = ![t.val, 0] := (by decide +kernel : ∀ t : Fin grid0.N, _)

/-- Row `y` of the `t`-th block of `x`. -/
theorem blk0 (t : Fin cfg0.N) (y : Fin 2000) (k : Fin 128) (hy : t.val * 2000 + y.val < 10000) :
    (iblk m c 0 t : Vec Ideal S2000x128 .f32) (ix2 y k) = aX m c (ix2 ⟨t.val * 2000 + y.val, hy⟩ k) := by
  blk_ext! [iblk, V, idx0 t]

/-- The block of the first layer's update gate starts at the origin. -/
theorem idx1 : win0_1.index p0 = ![0, 0, 0] := by decide +kernel
/-- The block of the first layer's update gate is the whole array. -/
theorem blk1 : (iblk m c 1 p0 : Vec Ideal S2x192x64 .f32) = m ((c : Thread nD τ).loc main_arg3) := by
  funext y
  blk_ext! [iblk, V, idx1]

/-- The block of the first layer's update bias starts at the origin. -/
theorem idx2 : win0_2.index p0 = ![0, 0] := by decide +kernel
/-- The block of the first layer's update bias is the bias as a row. -/
theorem blk2 (j : Fin 64) : (iblk m c 2 p0 : Vec Ideal S1x64 .f32) (ix2 0 j) = m ((c : Thread nD τ).loc main_arg4) (ix1 j) := by
  blk_ext! [iblk, V, idx2]

/-- The block of the first layer's candidate starts at the origin. -/
theorem idx3 : win0_3.index p0 = ![0, 0, 0] := by decide +kernel
/-- The block of the first layer's candidate is the whole array. -/
theorem blk3 : (iblk m c 3 p0 : Vec Ideal S2x192x64 .f32) = m ((c : Thread nD τ).loc main_arg7) := by
  funext y
  blk_ext! [iblk, V, idx3]

/-- The block of the first layer's candidate bias starts at the origin. -/
theorem idx4 : win0_4.index p0 = ![0, 0] := by decide +kernel
/-- The block of the first layer's candidate bias is the bias as a row. -/
theorem blk4 (j : Fin 64) : (iblk m c 4 p0 : Vec Ideal S1x64 .f32) (ix2 0 j) = m ((c : Thread nD τ).loc main_arg8) (ix1 j) := by
  blk_ext! [iblk, V, idx4]

/-- The block of the second layer's update gate starts at the origin. -/
theorem idx5 : win0_5.index p0 = ![0, 0, 0] := by decide +kernel
/-- The block of the second layer's update gate is the whole array. -/
theorem blk5 : (iblk m c 5 p0 : Vec Ideal S2x96x32 .f32) = m ((c : Thread nD τ).loc main_arg9) := by
  funext y
  blk_ext! [iblk, V, idx5]

/-- The block of the second layer's update bias starts at the origin. -/
theorem idx6 : win0_6.index p0 = ![0, 0] := by decide +kernel
/-- The block of the second layer's update bias is the bias as a row. -/
theorem blk6 (j : Fin 32) : (iblk m c 6 p0 : Vec Ideal S1x32 .f32) (ix2 0 j) = m ((c : Thread nD τ).loc main_arg10) (ix1 j) := by
  blk_ext! [iblk, V, idx6]

/-- The block of the second layer's candidate starts at the origin. -/
theorem idx7 : win0_7.index p0 = ![0, 0, 0] := by decide +kernel
/-- The block of the second layer's candidate is the whole array. -/
theorem blk7 : (iblk m c 7 p0 : Vec Ideal S2x96x32 .f32) = m ((c : Thread nD τ).loc main_arg13) := by
  funext y
  blk_ext! [iblk, V, idx7]

/-- The block of the second layer's candidate bias starts at the origin. -/
theorem idx8 : win0_8.index p0 = ![0, 0] := by decide +kernel
/-- The block of the second layer's candidate bias is the bias as a row. -/
theorem blk8 (j : Fin 32) : (iblk m c 8 p0 : Vec Ideal S1x32 .f32) (ix2 0 j) = m ((c : Thread nD τ).loc main_arg14) (ix1 j) := by
  blk_ext! [iblk, V, idx8]

/-- The block of the first dense layer's weights starts at the origin. -/
theorem idx9 : win0_9.index p0 = ![0, 0] := by decide +kernel
/-- The block of the first dense layer's weights is the whole array. -/
theorem blk9 : (iblk m c 9 p0 : Vec Ideal S32x16 .f32) = m ((c : Thread nD τ).loc main_arg15) := by
  funext y
  blk_ext! [iblk, V, idx9]

/-- The block of the first dense layer's bias starts at the origin. -/
theorem idx10 : win0_10.index p0 = ![0, 0] := by decide +kernel
/-- The block of the first dense layer's bias is the bias as a row. -/
theorem blk10 (j : Fin 16) : (iblk m c 10 p0 : Vec Ideal S1x16 .f32) (ix2 0 j) = m ((c : Thread nD τ).loc main_arg16) (ix1 j) := by
  blk_ext! [iblk, V, idx10]

/-- The block of the last layer's weights starts at the origin. -/
theorem idx11 : win0_11.index p0 = ![0, 0] := by decide +kernel
/-- The block of the last layer's weights is the whole array. -/
theorem blk11 : (iblk m c 11 p0 : Vec Ideal S16x1 .f32) = m ((c : Thread nD τ).loc main_arg17) := by
  funext y
  blk_ext! [iblk, V, idx11]

/-- The block of the last layer's bias starts at the origin. -/
theorem idx12 : win0_12.index p0 = ![0, 0] := by decide +kernel
/-- The block of the last layer's bias is the bias as a row. -/
theorem blk12 (j : Fin 1) : (iblk m c 12 p0 : Vec Ideal S1x1 .f32) (ix2 0 j) = m ((c : Thread nD τ).loc main_arg18) (ix1 j) := by
  blk_ext! [iblk, V, idx12]

/-! ## The result -/

/-- The values the kernel needs real: the features, and the first layer's weights that meet them. -/
structure RealInputs : Prop where
  /-- The features are real. -/
  x : ∀ i, IsReal (aX m c i)
  /-- The first layer's update gate is real in the rows that meet the features. -/
  z : ∀ g i j, IsReal (gateW (n := 128) (by decide) (aZ m c) g i j)
  /-- The first layer's candidate is real in the rows that meet the features. -/
  h : ∀ g i j, IsReal (gateW (n := 128) (by decide) (aH m c) g i j)

/-- Each row of the block point `t` writes is the network's value on the corresponding row. -/
theorem outAt_row (hr : RealInputs m c) (t : Fin cfg0.N) (R : Fin 2000) (hR : t.val * 2000 + R.val < 10000) :
    outAt m c t (ix2 R 0) = result m c (ix2 ⟨t.val * 2000 + R.val, hR⟩ 0) := by
  obtain ⟨p, r, rfl⟩ := exists_half (n := 1000) (N := 2000) rfl R
  unfold outAt w1 w2 w3 w4 b1 b2 b3
  rw [blk1, blk3, blk5, blk7, blk9, blk11]
  refine (outBlk_row _ _ _ _ _ _ _ _ _ _ _ _ _ p r (fun i => ?_) hr.z hr.h).trans ?_
  · rw [blk0 m c t _ i hR]; exact hr.x _
  · simp only [blk2, blk4, blk6, blk8, blk10, blk12, result, network, ix2_0]
    congr 1
    funext k
    exact blk0 m c t _ k hR

/-- The array the run leaves is the network's value on every row. -/
theorem final (hr : RealInputs m c) : (dats m 0 c).arrAt 13 cfg0.N = result m c := by
  refine (dats m 0 c).arrAt_eq_of_covers 13 _ (by decide +kernel) fun t hf y => ?_
  blk_simp
  rw [after_13]
  have ht : t.val < 5 := lt_of_lt_of_eq t.isLt N_0
  have h0 : (y 0).val < 2000 := (y 0).isLt
  have h1 : (y 1).val < 1 := (y 1).isLt
  have ey : y = ix2 (n0 := 2000) (n1 := 1) ⟨(y 0).val, h0⟩ 0 := by
    funext a; fin_cases a
    · rfl
    · exact Fin.ext (by show (y 1).val = 0; omega)
  have e : ((cfg0.win 13).blk t).view.emb y
      = ix2 (n0 := 10000) (n1 := 1) ⟨t.val * 2000 + (y 0).val, by omega⟩ 0 := by
    funext a; fin_cases a <;> apply Fin.ext <;> blk_simp [idx13 t] <;> simp <;> omega
  rw [e]
  refine Eq.trans ?_ (outAt_row m c hr t ⟨(y 0).val, h0⟩ (by simp only; omega))
  exact congrArg _ ey

end Cert.KernelIdeal.Output

end
-- ==== Proof.lean ====
/- The certificate: the kernel, as written and at the ideal instance, and the reference each terminate with their
arguments as launched and every semaphore at zero; and at the ideal instance, where the features and the first layer's
weights that meet them are finite, kernel and reference leave the same array, the network's value on every row. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Same
public import proofs.«01_k».proof.Proof.Finite
public import proofs.«01_k».proof.Proof.RefValue
public import proofs.«01_k».proof.Proof.Output
public import Idealize.ShloMosaic.Adequacy
public import Idealize.ShloMosaic.Init

@[expose] public section

noncomputable section

namespace Cert.Proof

open Idealize.ShloMosaic Idealize.ShloMosaic.TcCoe Idealize.SL.Sem

section Kernel

open Cert.KernelIdeal Cert.KernelIdeal.Gen Cert.KernelIdeal.Run

variable (m : (ℓ : Loc nD τ sig) → Buf (Elt Ideal) ℓ) (g : Dev nD → PrngReg)

/-- The kernel's run leaves the network's value on every row in its result, where the inputs it needs real are. -/
theorem kernel_result (hr : ∀ c, Output.RealInputs m c) :
    θ_run defs (onTc (τ := τ) (main (F := Ideal))) ⟨m, fun _ => 0, g⟩ (fun r => ∀ c : Dev nD,
      r.2.mem ((c : Thread nD τ).loc main_v6) = Output.result m c) :=
  (θ_run defs _ _).mono (fun _ h c => ((h c).1 13).trans (Output.final m c (hr c))) (run_main m g)

end Kernel

/-- The kernel terminates with its arguments as launched and every semaphore at zero. -/
theorem frame_ideal : Cert.quiescent_KernelIdeal (hKernelIdeal := Cert.KernelIdeal.Gen.facts) := fun m g _ =>
  θ_run_and (Cert.KernelIdeal.Gen.frame_of m g (Cert.KernelIdeal.Run.dats m) (Cert.KernelIdeal.Run.A_eq m) (Cert.KernelIdeal.Run.run_main m g))
    ((θ_run Cert.KernelIdeal.defs _ _).mono (fun _ h => h.2) (Cert.KernelIdeal.Run.run_quiescent m g))

/-- The program as written is the same text at the machine's floats, so its run is the same run. -/
theorem frame_kernel : Cert.quiescent_Kernel (hKernel := Cert.Kernel.Gen.facts) := by
  intro m g _
  have h := θ_run_and (Cert.KernelIdeal.Gen.frame_of (F := Bits) m g (Cert.KernelIdeal.Run.dats m) (Cert.KernelIdeal.Run.A_eq m) (Cert.KernelIdeal.Run.run_main m g))
    ((θ_run Cert.KernelIdeal.defs _ _).mono (fun _ h => h.2) (Cert.KernelIdeal.Run.run_quiescent m g))
  rw [Cert.Same.defs_eq, Cert.Same.main_eq]
  exact h

/-- The reference terminates with its arguments as launched; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The precondition makes the inputs real. -/
theorem real_inputs (m : (ℓ : Loc Cert.KernelIdeal.nD Cert.KernelIdeal.τ Cert.KernelIdeal.sig) → Buf (Elt Ideal) ℓ)
    (h : Cert.Pre_KernelIdeal_finite (hPre_finite := Cert.Finite.facts) m) (c : Dev Cert.KernelIdeal.nD) :
    Cert.KernelIdeal.Output.RealInputs m c :=
  ⟨Cert.Finite.feature_isReal _ (h c).1, Cert.Finite.gate_isReal _ (h c).2.1, Cert.Finite.gate_isReal _ (h c).2.2⟩

/-- Kernel and reference both leave the network's value on every row. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hp hag
  refine ⟨fun c => Cert.KernelIdeal.Output.result m c,
    (θ_run Cert.KernelIdeal.defs _ _).mono (fun _ h c => ⟨h.1 c, h.2.1 c⟩)
      (θ_run_and (kernel_result m g (real_inputs m hp)) (frame_ideal m g trivial)),
    (θ_run Cert.ReferenceIdeal.defs _ _).mono (fun _ h c => ⟨(h c).1.trans ?_, (h c).2⟩)
      (Cert.ReferenceIdeal.Value.run (F := Ideal) m' g')⟩
  obtain ⟨h0, _, _, h3, h4, h5, h6, h7, h8, h9, h10, h11, h12, h13, h14, h15, h16, h17, h18⟩ := hag c
  refine (Cert.ReferenceIdeal.Read.val_main_v114_eq m' c).trans ((Cert.ReferenceIdeal.Network.result_eq ..).trans ?_)
  rw [h0, h3, h4, h7, h8, h9, h10, h13, h14, h15, h16, h17, h18]
  rfl

/-- The certificate's claim. -/
theorem claim : Cert.Claim :=
  ⟨Cert.Kernel.Gen.facts, Cert.KernelIdeal.Gen.facts, Cert.ReferenceIdeal.Gen.facts, Cert.Finite.facts, frame_kernel, frame_ideal,
    fun m g _ => frame_ideal m g trivial, frame_reference, fun m g _ => frame_reference m g trivial, trivial, algebraic⟩

end Cert.Proof

end
